-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_not_negative [hPre_not_negative : Cert.Pre_not_negative.Facts] (m : (ℓ : Loc Cert.KernelIdeal.nD Cert.KernelIdeal.τ Cert.KernelIdeal.sig) → Buf (Elt Ideal) ℓ) : Prop :=
  ∀ c : Dev Cert.KernelIdeal.nD,
    (Cert.Pre_not_negative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_not_negative [hPre_not_negative : Cert.Pre_not_negative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_not_negative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_not_negative [hKernelIdeal : Cert.KernelIdeal.Facts] [hPre_not_negative : Cert.Pre_not_negative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_not_negative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_not_negative [hReferenceIdeal : Cert.ReferenceIdeal.Facts] [hPre_not_negative : Cert.Pre_not_negative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_not_negative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_not_negative [hKernelIdeal : Cert.KernelIdeal.Facts] [hReferenceIdeal : Cert.ReferenceIdeal.Facts] [hPre_not_negative : Cert.Pre_not_negative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_not_negative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_not_negative : Cert.Pre_not_negative.Facts),
    quiescent_Kernel (hKernel := hKernel)
    ∧ quiescent_KernelIdeal (hKernelIdeal := hKernelIdeal)
    ∧ quiescent_KernelIdeal_pre_not_negative (hKernelIdeal := hKernelIdeal) (hPre_not_negative := hPre_not_negative)
    ∧ quiescent_ReferenceIdeal (hReferenceIdeal := hReferenceIdeal)
    ∧ quiescent_ReferenceIdeal_pre_not_negative (hReferenceIdeal := hReferenceIdeal) (hPre_not_negative := hPre_not_negative)
    ∧ preserves_Kernel_KernelIdeal
    ∧ algebraic_KernelIdeal_ReferenceIdeal_pre_not_negative (hKernelIdeal := hKernelIdeal) (hReferenceIdeal := hReferenceIdeal) (hPre_not_negative := hPre_not_negative)
-- ==== Pre_not_negative.lean ====
abbrev S100000x8x64 : Shape := ⟨3, ![100000, 8, 64]⟩
abbrev S64 : Shape := ⟨1, ![64]⟩
abbrev S1x128 : Shape := ⟨2, ![1, 128]⟩
abbrev S_ : Shape := ⟨0, ![]⟩

class Facts : Prop where

variable [Facts]

def fn {F : FTy → Type} [FloatOps F] (main_arg0 : FVec F S100000x8x64 .f32) (main_arg1 : FVec F S64 .f32) (main_arg2 : FVec F S1x128 .f32) (main_arg3 : IVec S_ 32) : IVec S_ 1 :=
  let main_c : IVec S_ 32 := constantI S_ 32 0#32
  let main_v0 : IVec S_ 1 := cmpi .sge main_arg3 main_c
  main_v0
-- ==== Kernel.lean ====
abbrev S100000x8x64 : Shape := ⟨3, ![100000, 8, 64]⟩
abbrev S64 : Shape := ⟨1, ![64]⟩
abbrev S1x128 : Shape := ⟨2, ![1, 128]⟩
abbrev S_ : Shape := ⟨0, ![]⟩
abbrev S8x64x100000 : Shape := ⟨3, ![8, 64, 100000]⟩
abbrev S1x64 : Shape := ⟨2, ![1, 64]⟩
abbrev S3x64 : Shape := ⟨2, ![3, 64]⟩
abbrev S3x64x1 : Shape := ⟨3, ![3, 64, 1]⟩
abbrev S1 : Shape := ⟨1, ![1]⟩
abbrev S8x64x4096 : Shape := ⟨3, ![8, 64, 4096]⟩
abbrev S1x1x4096 : Shape := ⟨3, ![1, 1, 4096]⟩
abbrev S8x64 : Shape := ⟨2, ![8, 64]⟩
abbrev S8x64x1 : Shape := ⟨3, ![8, 64, 1]⟩
abbrev S1x64x1 : Shape := ⟨3, ![1, 64, 1]⟩
abbrev S1x1 : Shape := ⟨2, ![1, 1]⟩
abbrev S1x1x1 : Shape := ⟨3, ![1, 1, 1]⟩
abbrev S8x1 : Shape := ⟨2, ![8, 1]⟩
abbrev S8x1x1 : Shape := ⟨3, ![8, 1, 1]⟩

abbrev nBuf : Space → Nat
  | .hbm => 16
  | .vmem => 5
  | .smem => 1
  | _ => 0

abbrev bufTy : (tb : Table) → Fin (tcTables nBuf tb) → BufTy
  | .hbm, ⟨0, _⟩ => ⟨S100000x8x64, .f32⟩
  | .hbm, ⟨1, _⟩ => ⟨S64, .f32⟩
  | .hbm, ⟨2, _⟩ => ⟨S1x128, .f32⟩
  | .hbm, ⟨3, _⟩ => ⟨S_, .i32⟩
  | .hbm, ⟨4, _⟩ => ⟨S8x64x100000, .f32⟩
  | .hbm, ⟨5, _⟩ => ⟨S1x64, .f32⟩
  | .hbm, ⟨6, _⟩ => ⟨S64, .f32⟩
  | .hbm, ⟨7, _⟩ => ⟨S1x64, .f32⟩
  | .hbm, ⟨8, _⟩ => ⟨S64, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S3x64, .f32⟩
  | .hbm, ⟨13, _⟩ => ⟨S3x64x1, .f32⟩
  | .hbm, ⟨14, _⟩ => ⟨S8x64x100000, .f32⟩
  | .hbm, ⟨15, _⟩ => ⟨S100000x8x64, .f32⟩
  | .local _ .vmem, ⟨0, _⟩ => ⟨S8x64x4096, .f32⟩
  | .local _ .vmem, ⟨1, _⟩ => ⟨S8x64x4096, .f32⟩
  | .local _ .vmem, ⟨2, _⟩ => ⟨S3x64x1, .f32⟩
  | .local _ .vmem, ⟨3, _⟩ => ⟨S8x64x4096, .f32⟩
  | .local _ .vmem, ⟨4, _⟩ => ⟨S8x64x4096, .f32⟩
  | .local _ .smem, ⟨0, _⟩ => ⟨S1, .i32⟩
  | _, _ => ⟨S100000x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v11 : Ref sig .tc := ⟨.hbm, 14, rfl⟩
abbrev main_v12 : Ref sig .tc := ⟨.hbm, 15, rfl⟩
abbrev main_v10 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

abbrev pre0 : Pipeline.Prefetch sig := ⟨1, ![main_v10.idx], fun | 0 => main_v10.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S8x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S100000x8x64 : Shape := ⟨3, ![100000, 8, 64]⟩
abbrev S64 : Shape := ⟨1, ![64]⟩
abbrev S1x128 : Shape := ⟨2, ![1, 128]⟩
abbrev S_ : Shape := ⟨0, ![]⟩
abbrev S1x8x64 : Shape := ⟨3, ![1, 8, 64]⟩
abbrev S8x64 : Shape := ⟨2, ![8, 64]⟩
abbrev S1x64 : Shape := ⟨2, ![1, 64]⟩
abbrev S8x128 : Shape := ⟨2, ![8, 128]⟩
abbrev S128x1 : Shape := ⟨2, ![128, 1]⟩
abbrev S8x1 : Shape := ⟨2, ![8, 1]⟩
abbrev S100000x8x1 : Shape := ⟨3, ![100000, 8, 1]⟩
abbrev S1 : Shape := ⟨1, ![1]⟩

abbrev nBuf : Space → Nat
  | .hbm => 59
  | .vmem => 0
  | .smem => 0
  | _ => 0

abbrev bufTy : (tb : Table) → Fin (tcTables nBuf tb) → BufTy
  | .hbm, ⟨0, _⟩ => ⟨S100000x8x64, .f32⟩
  | .hbm, ⟨1, _⟩ => ⟨S64, .f32⟩
  | .hbm, ⟨2, _⟩ => ⟨S1x128, .f32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1x8x64, .f32⟩
  | .hbm, ⟨26, _⟩ => ⟨S8x64, .f32⟩
  | .hbm, ⟨27, _⟩ => ⟨S1x64, .f32⟩
  | .hbm, ⟨28, _⟩ => ⟨S8x64, .f32⟩
  | .hbm, ⟨29, _⟩ => ⟨S8x128, .f32⟩
  | .hbm, ⟨30, _⟩ => ⟨S128x1, .f32⟩
  | .hbm, ⟨31, _⟩ => ⟨S8x1, .f32⟩
  | .hbm, ⟨32, _⟩ => ⟨S8x1, .f32⟩
  | .hbm, ⟨33, _⟩ => ⟨S8x1, .f32⟩
  | .hbm, ⟨34, _⟩ => ⟨S_, .f32⟩
  | .hbm, ⟨35, _⟩ => ⟨S8x1, .f32⟩
  | .hbm, ⟨36, _⟩ => ⟨S8x1, .f32⟩
  | .hbm, ⟨37, _⟩ => ⟨S_, .f32⟩
  | .hbm, ⟨38, _⟩ => ⟨S8x1, .f32⟩
  | .hbm, ⟨39, _⟩ => ⟨S8x1, .f32⟩
  | .hbm, ⟨40, _⟩ => ⟨S_, .f32⟩
  | .hbm, ⟨41, _⟩ => ⟨S100000x8x1, .f32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S1, .i32⟩
  | .hbm, ⟨48, _⟩ => ⟨S100000x8x1, .f32⟩
  | .hbm, ⟨49, _⟩ => ⟨S_, .f32⟩
  | .hbm, ⟨50, _⟩ => ⟨S100000x8x1, .f32⟩
  | .hbm, ⟨51, _⟩ => ⟨S100000x8x1, .f32⟩
  | .hbm, ⟨52, _⟩ => ⟨S100000x8x64, .f32⟩
  | .hbm, ⟨53, _⟩ => ⟨S100000x8x64, .f32⟩
  | .hbm, ⟨54, _⟩ => ⟨S1x8x64, .f32⟩
  | .hbm, ⟨55, _⟩ => ⟨S100000x8x64, .f32⟩
  | .hbm, ⟨56, _⟩ => ⟨S100000x8x64, .f32⟩
  | .hbm, ⟨57, _⟩ => ⟨S100000x8x64, .f32⟩
  | .hbm, ⟨58, _⟩ => ⟨S100000x8x64, .f32⟩
  | _, _ => ⟨S100000x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_c_1 : Ref sig .tc := ⟨.hbm, 9, rfl⟩
abbrev main_c_2 : Ref sig .tc := ⟨.hbm, 10, rfl⟩
abbrev main_v3 : Ref sig .tc := ⟨.hbm, 11, rfl⟩
abbrev main_c_3 : Ref sig .tc := ⟨.hbm, 12, rfl⟩
abbrev main_c_4 : Ref sig .tc := ⟨.hbm, 13, rfl⟩
abbrev main_v4 : Ref sig .tc := ⟨.hbm, 14, rfl⟩
abbrev main_c_5 : Ref sig .tc := ⟨.hbm, 15, rfl⟩
abbrev main_v5 : Ref sig .tc := ⟨.hbm, 16, rfl⟩
abbrev main_c_6 : Ref sig .tc := ⟨.hbm, 17, rfl⟩
abbrev main_c_7 : Ref sig .tc := ⟨.hbm, 18, rfl⟩
abbrev main_v6 : Ref sig .tc := ⟨.hbm, 19, rfl⟩
abbrev main_c_8 : Ref sig .tc := ⟨.hbm, 20, rfl⟩
abbrev main_c_9 : Ref sig .tc := ⟨.hbm, 21, rfl⟩
abbrev main_v7 : Ref sig .tc := ⟨.hbm, 22, rfl⟩
abbrev main_c_10 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_v19 : Ref sig .tc := ⟨.hbm, 36, rfl⟩
abbrev main_cst_11 : Ref sig .tc := ⟨.hbm, 37, rfl⟩
abbrev main_v20 : Ref sig .tc := ⟨.hbm, 38, rfl⟩
abbrev main_v21 : Ref sig .tc := ⟨.hbm, 39, rfl⟩
abbrev main_cst_12 : Ref sig .tc := ⟨.hbm, 40, rfl⟩
abbrev main_v22 : Ref sig .tc := ⟨.hbm, 41, rfl⟩
abbrev main_c_13 : Ref sig .tc := ⟨.hbm, 42, rfl⟩
abbrev main_v23 : Ref sig .tc := ⟨.hbm, 43, rfl⟩
abbrev main_c_14 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_15 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩

abbrev nD : Nat := 1
abbrev τ : Topo := Topo.v7x

variable {F : FTy → Type} [FloatOps F]
-- ==== Proof.Body.lean ====
/-
  The kernel's body on any whole staging buffers (hand-written): what it stores.
-/
module

public import proofs.«01_k».proof.Proof.Gen.KernelIdeal.Launch
public import proofs.«01_k».proof.Proof.Gen.KernelIdeal.Skeleton
public import Idealize.ShloMosaic.Lib.Pipeline.TableIdle
public import Idealize.ShloMosaic.Lib.Pipeline.Value
public import Idealize.ShloMosaic.Lib.VecWindow
public import Idealize.ShloMosaic.Lib.Tactic

@[expose] public section

noncomputable section

namespace Cert.Region

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The kernel's variants: none. -/
abbrev 𝒱₀ : Variants := Variants.none

/-- The body's test, as a word: is the lane block number `i` the floor quotient of the index `r` by 4096? -/
def hits (i r : BitVec 32) : BitVec 1 :=
  Scalar.cmpi .ne (Scalar.extui (Scalar.cmpi .eq i
    (Scalar.select
      (Scalar.andi
        (Scalar.cmpi .ne
          (Scalar.subi (Scalar.extui (Scalar.cmpi .sgt r 0#32)) (Scalar.extui (Scalar.cmpi .slt r 0#32)))
          (Scalar.subi (Scalar.extui (Scalar.cmpi .sgt 4096#32 0#32)) (Scalar.extui (Scalar.cmpi .slt 4096#32 0#32))))
        (Scalar.cmpi .ne (Scalar.remsi r 4096#32) 0#32))
      (Scalar.subi (Scalar.divsi r 4096#32) 1#32)
      (Scalar.divsi r 4096#32)))) 0#32

/-- What the body leaves in its output block, from the block number, the index, the input block `X` and the weights
    `W`: the block itself, and at the one point whose block holds the index, the block with one lane replaced. -/
def result (i r : BitVec 32) (X : Vec F S8x64x4096 .f32) (W : Vec F S3x64x1 .f32) : Vec F S8x64x4096 .f32 :=
  if hits i r = 1#1 then
    k0_pay2 i r X
      (VecWindow.window W ![0, 0, 0] S1x64x1.size inb_S3x64x1_S1x64x1_0_0_0)
      (VecWindow.window W ![1, 0, 0] S1x64x1.size inb_S3x64x1_S1x64x1_1_0_0)
      (VecWindow.window W ![2, 0, 0] S1x64x1.size inb_S3x64x1_S1x64x1_2_0_0)
  else X

/-- Holding a buffer's elements at contents read as `X` is owning it at `X`. -/
theorem owns_at (c : Thread nD τ) {sp : Space} {sh : Shape} {e : EltTy} (a : Memref sig c.2.kind sp sh e)
    (X : sh.Idx → Elt F e) (f : a.view.ty.Contents (Elt F)) (h : a.view.read (Elt F) f = X) :
    (a.view.loc c ↦[a.view.set]{fullShare} f : sProp 𝕄) ⊢ owns c a fullShare X := h ▸ owns_intro c a fullShare f

/-- The body on whole staging buffers `a2`, `a3`, `a4` and the prefetched table: from the table at `r`, the input
    block at `X`, the weights at `W` and the output block at anything, it ends with the output block at `result` and
    everything else as it was. -/
theorem body_run (c : Dev nD) (E : Set ℕ) (i : grid0.Coords) (q : PosShare TreeShare)
    (a2 : Memref sig .tc .vmem S8x64x4096 .f32) (h2 : a2.IsWhole) (a3 : Memref sig .tc .vmem S3x64x1 .f32) (h3 : a3.IsWhole)
    (a4 : Memref sig .tc .vmem S8x64x4096 .f32) (h4 : a4.IsWhole)
    (r : BitVec 32)
    (X Y : S8x64x4096.Idx → Elt F .f32) (W : S3x64x1.Idx → Elt F .f32) (K : PUnit → sProp 𝕄) :
    iprop((((c : Thread nD τ).loc main_v10) ↦{q} (fun _ => r : S1.Idx → Elt F .i32))
          ∗ (owns (c : Thread nD τ) a2 fullShare X ∗ owns (c : Thread nD τ) a3 fullShare W ∗ owns (c : Thread nD τ) a4 fullShare Y)
          ∗ (iprop((((c : Thread nD τ).loc main_v10) ↦{q} (fun _ => r : S1.Idx → Elt F .i32))
                  ∗ owns (c : Thread nD τ) a2 fullShare X ∗ owns (c : Thread nD τ) a3 fullShare W
                  ∗ owns (c : Thread nD τ) a4 fullShare (result (BitVec.ofNat 32 (i 0).val) r X W)) -∗ K ⟨⟩))
      ⊢ wp frame (wpE (defs₀ (F := F)) 𝒱₀ c none) E
          (cc0__body i (Memref.whole main_v10) (Memref.isWhole_whole _) a2 h2 a3 h3 a4 h4) K := by
  have ew : ∀ f w, a4.view.read (Elt F)
      ((a4.access (Rect.unit (s := S8x64x4096) ![0, 0, 0] S8x64x4096.size inb_S8x64x4096_S8x64x4096_0_0_0)).write (Elt F) f w
        Finset.univ) = w :=
    fun f w => View.read_writes_full a4.view f inb_S8x64x4096_S8x64x4096_0_0_0 w []
  have er : a2.view.readAt (Elt F) (Rect.unit (s := S8x64x4096) ![0, 0, 0] S8x64x4096.size
      inb_S8x64x4096_S8x64x4096_0_0_0).toLoadRect (a2.view.rep X) = X := View.readAt_rep_full a2.view X _
  have ew3 : ∀ (off : Fin 3 → ℕ) (hi : ∀ a, off a + S1x64x1.size a ≤ S3x64x1.size a),
      a3.view.readAt (Elt F) (Rect.unit (s := S3x64x1) off S1x64x1.size hi).toLoadRect (a3.view.rep W)
        = VecWindow.window W off S1x64x1.size hi :=
    fun off hi => View.readAt_rep_unit a3.view W hi rfl hi
  have e1 : ∀ x, k0_pay1 (F := F) x = x := fun x => shapeCast_self _ _
  simp only [cc0__body_eq_skeleton]
  unfold cc0__body_skel
  simp only [k0_part1_eq_skeleton]
  unfold k0_part1_skel smemLoad smemLoadElt
  simp only [Prog.lift, Prog.bind_op, Prog.bind_ret]
  iintro ⟨Ht, ⟨H2, H3, H4⟩, Hk⟩
  ihave H2 := (rep_of_owns (c : Thread nD τ) a2 fullShare X) $$ H2
  ihave H3 := (rep_of_owns (c : Thread nD τ) a3 fullShare W) $$ H3
  ihave H4 := (rep_of_owns (c : Thread nD τ) a4 fullShare Y) $$ H4
  iapply (wp_load_rect 𝒱₀ (c : Thread nD τ) none E (m := Memref.whole main_v10)
    (r := Rect.unit (s := S1) ![0] S1.size inb_S1_S1_0) (Finset.subset_univ _)) $$ Ht
  iintro Ht
  by_cases hh : hits (BitVec.ofNat 32 (i 0).val) r = 1#1
  · have hres : result (BitVec.ofNat 32 (i 0).val) r X W = _ := if_pos hh
    sl_steps
    rw [if_pos (by exact hh)]
    sl_steps
    simp only [Prog.pure_eq_ret, Prog.bind_ret]
    sl_steps
    rw [hres]
    iapply Hk
    isplitl [Ht]; · iexact Ht
    isplitl [H2]; · iapply (owns_of_rep (c : Thread nD τ) a2 fullShare X) $$ H2
    isplitl [H3]; · iapply (owns_of_rep (c : Thread nD τ) a3 fullShare W) $$ H3
    iapply (owns_at (c : Thread nD τ) a4 _ _
      ((View.read_writes_full a4.view _ inb_S8x64x4096_S8x64x4096_0_0_0 _ _).trans
        (congr (congr (congr (congrArg _ ((e1 _).trans er)) (ew3 _ _)) (ew3 _ _)) (ew3 _ _)))) $$ H4
  · have hres : result (BitVec.ofNat 32 (i 0).val) r X W = X := if_neg hh
    sl_steps
    rw [if_neg (by exact hh)]
    sl_steps
    rw [hres]
    iapply Hk
    isplitl [Ht]; · iexact Ht
    isplitl [H2]; · iapply (owns_of_rep (c : Thread nD τ) a2 fullShare X) $$ H2
    isplitl [H3]; · iapply (owns_of_rep (c : Thread nD τ) a3 fullShare W) $$ H3
    iapply (owns_at (c : Thread nD τ) a4 _ _ ((ew _ _).trans ((e1 _).trans er))) $$ H4

end Cert.Region
-- ==== Proof.Lanes.lean ====
/-
  What the body's output block is, lane by lane (hand-written): block `i` of the input array with the one indexed
  lane replaced, whatever the lanes past the array's end hold.
-/
module

public import proofs.«01_k».proof.Proof.Body
public import Idealize.ShloMosaic.Lib.ValueIdxCoords

@[expose] public section

noncomputable section

namespace Cert.Region

open Cert.KernelIdeal Cert.KernelIdeal.Gen

open Idealize.ShloMosaic
open Idealize.ShloMosaic.ValueIdx

variable {F : FTy → Type} [FloatOps F]

/-- The lanes the body replaces in block `i`: those whose number is the index `r` less the block's first. -/
def mask (i r : BitVec 32) : IVec S8x64x4096 1 :=
  broadcastTo S8x64x4096
    (shapeCast S1x1x4096
      (cmpi .eq (iota .tc S1x1x4096 32 [2] iota_S1x1x4096_d2_w32)
        (broadcast S1x1x4096 (Scalar.subi r (Scalar.muli i 4096#32))))
      shapeCasts_S1x1x4096_S1x1x4096)
    broadcasts_S1x1x4096_S8x64x4096

/-- The zero the body masks with. -/
def zeros : FVec F S8x64x4096 .f32 := broadcast S8x64x4096 (Scalar.ofBits .f32 0x00000000#32)

/-- The old row, from the block with every other lane zeroed: the sum over the lanes. -/
def oldRow (M : FVec F S8x64x4096 .f32) : FVec F S8x64x1 .f32 :=
  shapeCast S8x64x1 (multiReduction .add [2] S8x64 M 0x00000000#32 reduces_S8x64x4096_S8x64 (.inl rfl) rfl) shapeCasts_S8x64_S8x64x1

/-- The gate, from the old row, the embedding `e` and the two halves `w1`, `w2` of the weights. -/
def gate (row : FVec F S8x64x1 .f32) (e w1 w2 : FVec F S1x64x1 .f32) : FVec F S8x1x1 .f32 :=
  logistic (addf
    (broadcastTo S8x1x1 (shapeCast S1x1x1 (multiReduction .add [1] S1x1 (mulf e w1) 0x00000000#32 reduces_S1x64x1_S1x1 (.inl rfl) rfl)
      shapeCasts_S1x1_S1x1x1) broadcasts_S1x1x1_S8x1x1)
    (shapeCast S8x1x1 (multiReduction .add [1] S8x1 (mulf row (broadcastTo S8x64x1 w2 broadcasts_S1x64x1_S8x64x1)) 0x00000000#32
      reduces_S8x64x1_S8x1 (.inl rfl) rfl) shapeCasts_S8x1_S8x1x1))

/-- The new row: the old one and the embedding, mixed by the gate. -/
def newRow (row : FVec F S8x64x1 .f32) (e w1 w2 : FVec F S1x64x1 .f32) : FVec F S8x64x1 .f32 :=
  addf
    (mulf row (broadcastTo S8x64x1 (subf (broadcast S8x1x1 (Scalar.ofBits .f32 0x3F800000#32)) (gate row e w1 w2)) broadcasts_S8x1x1_S8x64x1))
    (mulf (broadcastTo S8x64x1 e broadcasts_S1x64x1_S8x64x1) (broadcastTo S8x64x1 (gate row e w1 w2) broadcasts_S8x1x1_S8x64x1))

/-- What the body stores at the point whose block holds the index: the new row on the masked lanes, the block on the others. -/
theorem pay2_eq (i r : BitVec 32) (X : FVec F S8x64x4096 .f32) (e w1 w2 : FVec F S1x64x1 .f32) :
    k0_pay2 i r X e w1 w2
      = select (mask i r)
          (broadcastTo S8x64x4096 (newRow (oldRow (select (mask i r) X zeros)) e w1 w2) broadcasts_S8x64x1_S8x64x4096) X := by
  unfold k0_pay2
  simp only [shapeCast_self]
  unfold newRow gate oldRow mask zeros
  simp only [shapeCast_self]

/-- A lane is masked exactly when its number is the index less the block's first lane. -/
theorem mask_eq_one (i r : BitVec 32) (j : S8x64x4096.Idx) :
    mask i r j = 1 ↔ BitVec.ofNat 32 (j 2).val = r - i * 4096#32 := by
  unfold mask
  rw [shapeCast_self, broadcastTo_apply (s := S1x1x4096) (t := S8x64x4096) _ _ j (ix3 (0 : Fin 1) (0 : Fin 1) (j 2)) (fun a => by fin_cases a <;> rfl)]
  show IntOp.cmpi .eq (iota .tc S1x1x4096 32 [2] iota_S1x1x4096_d2_w32 (ix3 0 0 (j 2))) (r - i * 4096#32) = 1 ↔ _
  rw [iota_single_apply]
  show BitVec.ofBool (BitVec.ofNat 32 (j 2).val == r - i * 4096#32) = 1 ↔ _
  by_cases h : BitVec.ofNat 32 (j 2).val = r - i * 4096#32
  · rw [beq_iff_eq.mpr h]; exact iff_of_true rfl h
  · rw [beq_eq_false_iff_ne.mpr h]; exact iff_of_false (by decide) h

/-- In block `i`, the masked lane is the one whose number in the whole array is the index. -/
theorem mask_eq_one_block (i : ℕ) (r : BitVec 32) (j : S8x64x4096.Idx) :
    mask (BitVec.ofNat 32 i) r j = 1 ↔ BitVec.ofNat 32 (4096 * i + (j 2).val) = r := by
  rw [mask_eq_one, eq_comm, BitVec.sub_eq_iff_eq_add, eq_comm, BitVec.ofNat_add, BitVec.ofNat_mul]
  rw [BitVec.add_comm, BitVec.mul_comm]

/-- The floor quotient the body computes is the quotient, so the point whose block holds the index passes the test. -/
theorem hits_of_mem (n : ℕ) (hn : n < 100000) : hits (BitVec.ofNat 32 (n / 4096)) (BitVec.ofNat 32 n) = 1#1 := by
  have hb : (BitVec.ofNat 32 n).toNat = n := by rw [BitVec.toNat_ofNat]; omega
  have hm : (BitVec.ofNat 32 n).msb = false := by rw [BitVec.msb_eq_decide, hb]; simp; omega
  have hc : ¬ IntOp.SDivCorner (BitVec.ofNat 32 n) 4096#32 := by
    rintro (h | ⟨_, h⟩) <;> exact absurd h (by decide)
  have hd : Scalar.divsi (BitVec.ofNat 32 n) 4096#32 = BitVec.ofNat 32 (n / 4096) := by
    unfold Scalar.divsi IntOp.divsi
    rw [if_neg hc, BitVec.sdiv_eq, hm, show (4096#32).msb = false by decide]
    apply BitVec.eq_of_toNat_eq
    show (BitVec.ofNat 32 n / 4096#32).toNat = _
    rw [BitVec.toNat_udiv, hb, BitVec.toNat_ofNat, BitVec.toNat_ofNat, show 4096 % 2 ^ 32 = 4096 from rfl]
    omega
  have hs : Scalar.andi
        (Scalar.cmpi .ne
          (Scalar.subi (Scalar.extui (Scalar.cmpi .sgt (BitVec.ofNat 32 n) 0#32)) (Scalar.extui (Scalar.cmpi .slt (BitVec.ofNat 32 n) 0#32)))
          (Scalar.subi (Scalar.extui (Scalar.cmpi .sgt 4096#32 0#32)) (Scalar.extui (Scalar.cmpi .slt 4096#32 0#32))))
        (Scalar.cmpi .ne (Scalar.remsi (BitVec.ofNat 32 n) 4096#32) 0#32) = 0#1 := by
    rcases Nat.eq_zero_or_pos n with rfl | hp
    · decide
    · have h1 : Scalar.cmpi .sgt (BitVec.ofNat 32 n) 0#32 = 1#1 := by
        have : BitVec.slt 0#32 (BitVec.ofNat 32 n) = true := by
          rw [BitVec.slt_iff_toInt_lt, BitVec.toInt_eq_toNat_of_msb hm, hb]; simpa using hp
        show BitVec.ofBool (BitVec.slt 0#32 (BitVec.ofNat 32 n)) = 1#1
        rw [this]; rfl
      have h2 : Scalar.cmpi .slt (BitVec.ofNat 32 n) 0#32 = 0#1 := by
        have : BitVec.slt (BitVec.ofNat 32 n) 0#32 = false := by
          rw [Bool.eq_false_iff, Ne, BitVec.slt_iff_toInt_lt, BitVec.toInt_eq_toNat_of_msb hm, hb]; simp
        show BitVec.ofBool (BitVec.slt (BitVec.ofNat 32 n) 0#32) = 0#1
        rw [this]; rfl
      rw [h1, h2, show Scalar.cmpi .ne (Scalar.subi (Scalar.extui 1#1) (Scalar.extui 0#1))
        (Scalar.subi (Scalar.extui (Scalar.cmpi .sgt 4096#32 0#32)) (Scalar.extui (Scalar.cmpi .slt 4096#32 0#32))) = 0#1 by decide]
      exact BitVec.zero_and
  unfold hits
  rw [hs, hd, show ∀ a b : BitVec 32, Scalar.select 0#1 a b = b from fun _ _ => rfl]
  show IntOp.cmpi .ne (Scalar.extui (BitVec.ofBool (BitVec.ofNat 32 (n / 4096) == BitVec.ofNat 32 (n / 4096)))) 0#32 = 1#1
  rw [beq_self_eq_true]; decide

/-- The block at which only lane `n` of the array is kept, the other lanes zero: what the body sums to get the old row. -/
def lone (A : S8x64x100000.Idx → Elt F .f32) (n : Fin 100000) : FVec F S8x64x4096 .f32 :=
  fun j => if (j 2).val = n.val % 4096 then A (ix3 (j 0) (j 1) n) else Scalar.ofBits .f32 0x00000000#32

/-- The whole output array: the input array, but for the lane whose number is the index, which holds the new row. -/
def updated (r : BitVec 32) (A : S8x64x100000.Idx → Elt F .f32) (e w1 w2 : FVec F S1x64x1 .f32) : S8x64x100000.Idx → Elt F .f32 :=
  fun k => if BitVec.ofNat 32 (k 2).val = r then newRow (oldRow (lone A (k 2))) e w1 w2 (ix3 (k 0) (k 1) (0 : Fin 1)) else A k

/-- On the lanes inside the array the body's output block is block `i` of the updated array, whatever the input block
    holds on the lanes past the array's end. -/
theorem result_block (i : ℕ) (r : BitVec 32) (A : S8x64x100000.Idx → Elt F .f32) (X : Vec F S8x64x4096 .f32) (W : Vec F S3x64x1 .f32)
    (hX : ∀ (j : S8x64x4096.Idx) (h : 4096 * i + (j 2).val < 100000), X j = A (ix3 (j 0) (j 1) ⟨4096 * i + (j 2).val, h⟩))
    (j : S8x64x4096.Idx) (h : 4096 * i + (j 2).val < 100000) :
    result (BitVec.ofNat 32 i) r X W j
      = updated r A (VecWindow.window W ![0, 0, 0] S1x64x1.size inb_S3x64x1_S1x64x1_0_0_0)
          (VecWindow.window W ![1, 0, 0] S1x64x1.size inb_S3x64x1_S1x64x1_1_0_0)
          (VecWindow.window W ![2, 0, 0] S1x64x1.size inb_S3x64x1_S1x64x1_2_0_0) (ix3 (j 0) (j 1) ⟨4096 * i + (j 2).val, h⟩) := by
  have hj : (j 2).val < 4096 := (j 2).isLt
  unfold updated
  by_cases hr : BitVec.ofNat 32 (4096 * i + (j 2).val) = r
  · rw [if_pos (by exact hr)]
    have hh : hits (BitVec.ofNat 32 i) r = 1#1 := by
      have := hits_of_mem (4096 * i + (j 2).val) h
      rwa [hr, show (4096 * i + (j 2).val) / 4096 = i by omega] at this
    have hlone : select (mask (BitVec.ofNat 32 i) r) X zeros = lone A ⟨4096 * i + (j 2).val, h⟩ := by
      funext j'
      have hj' : (j' 2).val < 4096 := (j' 2).isLt
      have hm := mask_eq_one_block i r j'
      unfold select Scalar.select lone
      by_cases e : (j' 2).val = (j 2).val
      · rw [if_pos (hm.mpr (e ▸ hr)), if_pos (by show _ = (4096 * i + (j 2).val) % 4096; omega), hX j' (by omega)]
        simp only [e]
      · rw [if_neg, if_neg (by show ¬ _ = (4096 * i + (j 2).val) % 4096; omega)]
        · rfl
        · intro hx
          have h1 := congrArg BitVec.toNat ((hm.mp hx).trans hr.symm)
          simp only [BitVec.toNat_ofNat] at h1
          omega
    unfold result
    rw [if_pos hh, pay2_eq, hlone]
    unfold select Scalar.select
    rw [if_pos ((mask_eq_one_block i r j).mpr hr),
      broadcastTo_apply (s := S8x64x1) (t := S8x64x4096) _ _ j (ix3 (j 0) (j 1) (0 : Fin 1)) (fun a => by fin_cases a <;> rfl)]
  · rw [if_neg (by exact hr), ← hX j h]
    unfold result
    split
    · rw [pay2_eq]
      unfold select Scalar.select
      rw [if_neg fun hx => hr ((mask_eq_one_block i r j).mp hx)]
    · rfl

end Cert.Region
-- ==== Proof.Run.lean ====
/-
  The run of the whole program (hand-written): the proof data of its one pipeline, the body's obligation at every
  grid point, and the launch.
-/
module

public import proofs.«01_k».proof.Proof.Lanes
public import Idealize.ShloMosaic.Lib.Pipeline.FrameSuffix

@[expose] public section

noncomputable section

namespace Cert.Region

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe ΦA ΦT)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What each buffer holds when the kernel is launched: the host operations before it, run from the memory. -/
def entry (c : Dev nD) : Valuation τ sig (Elt F) := StableHlo.after hostOps0 (fun b => m (c, b))

/-- The index, as the program's argument gives it. -/
def index : BitVec 32 := m (((0 : Dev nD) : Thread nD τ).loc main_arg3) (fun a => a.elim0)

/-- The prefetched table's contents: the index. -/
def table : (p : Fin 1) → (pcfgs (F := F) p).Adm := fun _ => ⟨fun | 0 => (fun _ => index m : S1.Idx → Elt F .i32), trivial⟩

/-- The input array, transposed: its lanes are the rows of the memory. -/
def lanes (c : Dev nD) : S8x64x100000.Idx → Elt F .f32 := entry m c (Proc.devRef .tc main_v0)

/-- The embedding and the two halves of the weights, stacked. -/
def stacked (c : Dev nD) : S3x64x1.Idx → Elt F .f32 := entry m c (Proc.devRef .tc main_v9)

/-- The array the kernel is shown to leave. -/
def target (c : Dev nD) : S8x64x100000.Idx → Elt F .f32 :=
  updated (index m) (lanes m c)
    (VecWindow.window (stacked m c) ![0, 0, 0] S1x64x1.size inb_S3x64x1_S1x64x1_0_0_0)
    (VecWindow.window (stacked m c) ![1, 0, 0] S1x64x1.size inb_S3x64x1_S1x64x1_1_0_0)
    (VecWindow.window (stacked m c) ![2, 0, 0] S1x64x1.size inb_S3x64x1_S1x64x1_2_0_0)

/-- Block `t` of the input array, its part inside the array. -/
def xblk (c : Dev nD) (t : Fin grid0.N) : (((win0 (table m 0)) 0).xblock (grid0.coords t)).Idx → Elt F .f32 :=
  (((win0 (table m 0)) 0).blk t).view.read (Elt F) (lanes m c)

/-- Block `t` of the array to be left, its part inside the array. -/
def oblk (c : Dev nD) (t : Fin grid0.N) : (((win0 (table m 0)) 2).xblock (grid0.coords t)).Idx → Elt F .f32 :=
  (((win0 (table m 0)) 2).blk t).view.read (Elt F) (target m c)

/-- The proof data: the arrays as the host operations leave them; after the body the input block and the output block,
    each filled out with zeros past the array's end, and the weights; the table held throughout; full shares. -/
def dats (p : Fin 1) (c : Dev nD) : Dat τ (Elt F) Unit ℕ (UR sig nD τ) ℕ (Pipeline.pin (pcfgs (F := F)) (table m) p) c where
  A w := entry m c (Proc.devRef .tc (Pipeline.arrRef spec0 w))
  after w t := match w with
    | ⟨0, _⟩ => ((win0 (table m 0)) 0).fill (grid0.coords t) (fun _ => Scalar.ofBits .f32 0#32) (xblk m c t)
    | ⟨1, _⟩ => stacked m c
    | ⟨2, _⟩ => ((win0 (table m 0)) 2).fill (grid0.coords t) (fun _ => Scalar.ofBits .f32 0#32) (oblk m c t)
  Φ _ := iprop(ΦA spec0 c ∗ ΦT pre0 (table m 0).1 c)
  q _ := fullShare
  owed _ := 0

/-- The input array is fetched at every point, the output array written back at every point, and the weights fetched at the first. -/
theorem fetch_0 (t : Fin grid0.N) : ((win0 (table m 0)) 0).fetch t = true :=
  (by decide +kernel : ∀ t : Fin grid0.N, Window.fetchOf grid0 false cc0_transform_0 t = true) t
theorem flush_2 (t : Fin grid0.N) : ((win0 (table m 0)) 2).flush t = true :=
  (by decide +kernel : ∀ t : Fin grid0.N, Window.flushOf grid0 true cc0_transform_2 t = true) t

/-- The block's coordinate on the lane axis is the point. -/
theorem coords_val (t : Fin grid0.N) : ((grid0.coords t) 0).val = t.val :=
  (by decide +kernel : ∀ t : Fin grid0.N, ((grid0.coords t) 0).val = t.val) t

/-- How many lanes of block `t` are inside the array. -/
theorem xsize_lane (t : Fin grid0.N) (x : ℕ) (hx : x < 4096) :
    x < ((win0 (table m 0)) 2).xsize (grid0.coords t) 2 ↔ 4096 * t.val + x < 100000 := by
  have h : ((win0 (table m 0)) 2).xsize (grid0.coords t) 2 = min 4096 (100000 - 4096 * t.val) :=
    (by decide +kernel : ∀ t : Fin grid0.N, (clip0_2 (grid0.coords t) 2).extent 4096 = min 4096 (100000 - 4096 * t.val)) t
  rw [h]; omega

/-- What the body finds: the input block just fetched, `d` past the array's end; -/
theorem before_0 (c : Dev nD) (t : Fin grid0.N) (d) :
    (dats m 0 c).before (0 : Fin 3) t d = ((win0 (table m 0)) 0).fill (grid0.coords t) d (xblk m c t) := by
  rw [Dat.before_fetched _ _ _ (fetch_0 m t)]; rfl

/-- The weights' block is the whole array, at every point. -/
theorem wblk (c : Dev nD) (t : Fin grid0.N) : (((win0 (table m 0)) 1).blk t).view.read (Elt F) (stacked m c) = stacked m c :=
  funext fun j => congrArg (stacked m c) (funext fun a => Fin.ext (by
    refine (Window.rect_emb_val_of_index_zero ((win0 (table m 0)) 1) t a ?_ j)
    fin_cases a <;> rfl))

/-- the weights, at every point; -/
theorem before_1 (c : Dev nD) (t : Fin grid0.N) (d) : (dats m 0 c).before (1 : Fin 3) t d = stacked m c := by
  by_cases hf : ((win0 (table m 0)) 1).fetch t = true
  · exact ((dats m 0 c).before_fetched (1 : Fin 3) t hf d).trans (wblk m c t)
  · exact (dats m 0 c).before_unfetched_in (1 : Fin 3) rfl t (Bool.eq_false_iff.mpr hf) (fun _ => rfl) d

/-- the output's buffer at contents nothing names. -/
theorem before_2 (c : Dev nD) (t : Fin grid0.N) (d) : (dats m 0 c).before (2 : Fin 3) t d = d := by
  refine (dats m 0 c).before_out_reset (2 : Fin 3) rfl t ?_ d
  by_cases h : t.val = 0
  · exact .inl h
  · exact .inr ⟨h, flush_2 m _⟩

/-- The block number at point `t` is `t` on the lane axis and zero on the others. -/
theorem map_coords (t : Fin grid0.N) : cc0_transform_0 (grid0.coords t) = ![0, 0, t.val] :=
  (by decide +kernel : ∀ t : Fin grid0.N, cc0_transform_0 (grid0.coords t) = ![0, 0, t.val]) t

/-- The element of block `t` at `y` is the array's at the same first two coordinates and lane `4096 t + y 2`. -/
theorem blk_emb (t : Fin grid0.N) (y : (((win0 (table m 0)) 0).xblock (grid0.coords t)).Idx) (a : Fin 3) :
    ((((win0 (table m 0)) 0).rect t).emb y a : ℕ) = ![0, 0, 4096 * t.val] a + (y a : ℕ) := by
  rw [Window.rect_emb_val ((win0 (table m 0)) 0) t y a rfl]
  show cc0_transform_0 (grid0.coords t) a * S8x64x4096.size a + _ = _
  rw [map_coords]
  fin_cases a
  · show 0 * 8 + _ = 0 + _; omega
  · show 0 * 64 + _ = 0 + _; omega
  · show t.val * 4096 + _ = 4096 * t.val + _; omega

/-- On the first two axes a block is not cut. -/
theorem xsize_other (t : Fin grid0.N) :
    ((win0 (table m 0)) 0).xsize (grid0.coords t) 0 = 8 ∧ ((win0 (table m 0)) 0).xsize (grid0.coords t) 1 = 64 :=
  (by decide +kernel : ∀ t : Fin grid0.N, (clip0_2 (grid0.coords t) 0).extent 8 = 8 ∧ (clip0_2 (grid0.coords t) 1).extent 64 = 64) t

/-- The fetched input block at a lane inside the array is the array there, whatever `d` fills it out. -/
theorem fill_apply (c : Dev nD) (t : Fin grid0.N) (d : S8x64x4096.Idx → Elt F .f32) (j : S8x64x4096.Idx)
    (h : 4096 * t.val + (j 2).val < 100000) :
    ((win0 (table m 0)) 0).fill (grid0.coords t) d (xblk m c t) j = lanes m c (ix3 (j 0) (j 1) ⟨4096 * t.val + (j 2).val, h⟩) := by
  have hm : ((win0 (table m 0)) 0).moved (grid0.coords t) j = true := by
    refine (((win0 (table m 0)) 0).moved_iff _ j).mpr fun a => ?_
    fin_cases a
    · exact lt_of_lt_of_eq (j 0).isLt (xsize_other m t).1.symm
    · exact lt_of_lt_of_eq (j 1).isLt (xsize_other m t).2.symm
    · exact (xsize_lane m t _ (j 2).isLt).mpr h
  unfold Window.fill
  rw [dif_pos hm]
  refine congrArg (lanes m c) (funext fun a => Fin.ext ((blk_emb m t _ a).trans ?_))
  fin_cases a
  · exact Nat.zero_add _
  · exact Nat.zero_add _
  · rfl

/-- The body's output block, cut at the array's end, is block `t` of the array to be left. -/
theorem cut_result (c : Dev nD) (t : Fin grid0.N) (d : S8x64x4096.Idx → Elt F .f32) :
    ((win0 (table m 0)) 2).cut (grid0.coords t)
      (result (BitVec.ofNat 32 ((grid0.coords t) 0).val) (index m)
        (((win0 (table m 0)) 0).fill (grid0.coords t) d (xblk m c t)) (stacked m c)) = oblk m c t := by
  rw [coords_val]
  funext y
  have hy : 4096 * t.val + (y 2).val < 100000 :=
    (xsize_lane m t _ (lt_of_lt_of_le (y 2).isLt (((win0 (table m 0)) 2).xsize_le _ 2))).mp (y 2).isLt
  refine (result_block t.val (index m) (lanes m c) _ (stacked m c) ?_ _ hy).trans ?_
  · exact fun j h => fill_apply m c t d j h
  · refine congrArg (target m c) (funext fun a => Fin.ext (Eq.trans ?_ (blk_emb m t y a).symm))
    fin_cases a
    · exact (Nat.zero_add _).symm
    · exact (Nat.zero_add _).symm
    · rfl

/-- The one prefetched table, held at half share. -/
theorem table_held (c : Dev nD) : (ΦT pre0 (table m 0).1 c : sProp 𝕄)
    = (((c : Thread nD τ).loc main_v10) ↦{fullShare.right} (fun _ => index m : S1.Idx → Elt F .i32)) := by
  unfold ΦT Pipeline.prefHeld
  rw [show (Finset.univ : Finset (Fin 1)) = {0} from rfl, BI.bigSep_singleton]
  rfl

/-- The body's obligation at every point: the table at half share, the input block at whatever fetch left it, the
    weights and the output's buffer go in; what comes out is the input block and the weights as they were and, on the
    lanes inside the array, the block of the array to be left. -/
theorem body_obligation (c : Dev nD) : BodyObligationLoose (dats m 0 c) (defs₀ (F := F)) 𝒱₀ () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  rw [show (dats m 0 c).Φ t.castSucc = iprop(ΦA spec0 c ∗ ΦT pre0 (table m 0).1 c) from rfl, table_held]
  iintro ⟨⟨HA, Ht⟩, Ho, ⟨%d0, H0⟩, ⟨%d1, H1⟩, ⟨%d2, H2⟩⟩
  rw [before_0 m c t d0, before_1 m c t d1, before_2 m c t d2]
  iapply (body_run (F := F) c Set.univ (grid0.coords t) fullShare.right
    (stage0_0 ((Pipeline.pin pcfgs (table m) 0).slots t 0)) (hstage0_0 _)
    (stage0_1 ((Pipeline.pin pcfgs (table m) 0).slots t 1)) (hstage0_1 _)
    (stage0_2 ((Pipeline.pin pcfgs (table m) 0).slots t 2)) (hstage0_2 _)
    (index m) (((win0 (table m 0)) 0).fill (grid0.coords t) d0 (xblk m c t)) d2 (stacked m c) _)
  isplitl [Ht]; · iexact Ht
  isplitl [H0 H1 H2]
  · isplitl [H0]; · iexact H0
    isplitl [H1]; · iexact H1
    iexact H2
  iintro ⟨Ht, H0, H1, H2⟩
  isplitl [HA Ht]
  · isplitl [HA]; · iexact HA
    iexact Ht
  isplitl [Ho]; · iexact Ho
  have hx : ((win0 (table m 0)) 0).cut (grid0.coords t) ((dats m 0 c).after 0 t) = xblk m c t := Window.cut_fill _ _ _ _
  have ho : ((win0 (table m 0)) 2).cut (grid0.coords t) ((dats m 0 c).after 2 t) = oblk m c t := Window.cut_fill _ _ _ _
  isplitl [H0]
  · iexists d0
    change _ ⊢ owns (c : Thread nD τ) (stage0_0 ((Pipeline.pin pcfgs (table m) 0).slots t 0)) fullShare
      (((win0 (table m 0)) 0).fill (grid0.coords t) d0 (((win0 (table m 0)) 0).cut (grid0.coords t) ((dats m 0 c).after 0 t)))
    rw [hx]
  isplitl [H1]; · iexact H1
  · iexists result (BitVec.ofNat 32 ((grid0.coords t) 0).val) (index m)
        (((win0 (table m 0)) 0).fill (grid0.coords t) d0 (xblk m c t)) (stacked m c)
    change _ ⊢ owns (c : Thread nD τ) (stage0_2 ((Pipeline.pin pcfgs (table m) 0).slots t 2)) fullShare
      (((win0 (table m 0)) 2).fill (grid0.coords t) _ (((win0 (table m 0)) 2).cut (grid0.coords t) ((dats m 0 c).after 2 t)))
    rw [ho, ← cut_result m c t d0, Window.fill_cut]

end Cert.Region
-- ==== Proof.Launch.lean ====
/-
  The launch of the whole program (hand-written): what the host operations leave for the kernel, what the kernel's
  write-backs leave in its output array, and what the program's run leaves in memory.
-/
module

public import proofs.«01_k».proof.Proof.Run
public import Idealize.ShloMosaic.Lib.Claim

@[expose] public section

noncomputable section

namespace Cert.Region

open Cert.KernelIdeal Cert.KernelIdeal.Gen

open Idealize.ShloMosaic
open Idealize.ShloMosaic.TcCoe
open Idealize.ShloMosaic.ValueIdx
open Idealize.SL Idealize.SL.RA Idealize.SL.Sem
open Idealize.ShloMosaic.Pipeline (Dat Cfg Window ΦA ΦT)

variable {F : FTy → Type} [FloatOps F]

variable (m : (ℓ : Loc nD τ sig) → Buf (Elt F) ℓ) (ρ : Dev nD → PrngReg)

/-! ## The host operations before the kernel -/

/-- The kernel's input array is the memory with its rows as lanes. -/
theorem lanes_eq (c : Dev nD) : lanes m c = transpose S8x64x100000 [1, 2, 0]
    (m (c, Proc.devRef .tc main_arg0) : S100000x8x64.Idx → Elt F .f32) transposes_S100000x8x64_S8x64x100000_1_2_0 := by
  unfold lanes entry
  unfold_abbrev_sides
  after_results

/-- The three rows stacked: the embedding, and the two halves of the weights. -/
theorem stacked_eq (c : Dev nD) : stacked m c = shapeCast S3x64x1 (concatenate S3x64 0
      [⟨S1x64, broadcastInDim S1x64 ![1] bcast_S64_S1x64_1 (m (c, Proc.devRef .tc main_arg1) : S64.Idx → Elt F .f32)⟩,
       ⟨S1x64, broadcastInDim S1x64 ![1] bcast_S64_S1x64_1 (shapeCast S64 (extractStridedSlice S1x64 ![0, 0]
          (m (c, Proc.devRef .tc main_arg2) : S1x128.Idx → Elt F .f32) slices_S1x128_S1x64_0_0) shapeCasts_S1x64_S64)⟩,
       ⟨S1x64, broadcastInDim S1x64 ![1] bcast_S64_S1x64_1 (shapeCast S64 (extractStridedSlice S1x64 ![0, 64]
          (m (c, Proc.devRef .tc main_arg2) : S1x128.Idx → Elt F .f32) slices_S1x128_S1x64_0_64) shapeCasts_S1x64_S64)⟩]
      concatenates_S1x64_S1x64_S1x64_S3x64_d0) shapeCasts_S3x64_S3x64x1 := by
  unfold stacked entry
  unfold_abbrev_sides
  after_results_simp
  rfl

/-- The prefetched table holds the index. -/
theorem table_eq (c : Dev nD) : (entry m c (Proc.devRef .tc main_v10) : S1.Idx → Elt F .i32) = fun _ => index m := by
  obtain rfl := Subsingleton.elim (0 : Dev nD) c
  have h : (entry m 0 (Proc.devRef .tc main_v10) : S1.Idx → Elt F .i32)
      = shapeCast S1 (m ((0 : Dev nD), Proc.devRef .tc main_arg3) : S_.Idx → Elt F .i32) shapeCasts_S_S1 := by
    unfold entry
    unfold_abbrev_sides
    after_results
    rfl
  rw [h]
  funext j
  exact congrArg (m ((0 : Dev nD), Proc.devRef .tc main_arg3)) (funext fun a => a.elim0)

/-- The host operations leave the arguments as they were. -/
theorem entry_arg (c : Dev nD) (b : Ref sig .tc)
    (h : b ∈ ([main_arg0, main_arg1, main_arg2, main_arg3] : List (Ref sig .tc))) :
    entry m c (Proc.devRef .tc b) = m (c, Proc.devRef .tc b) := by
  unfold entry
  refine StableHlo.after_of_writes_sub
    (W := [main_v0, main_v1, main_v2, main_v3, main_v4, main_v5, main_v6, main_v7, main_v8, main_v9, main_v10]) hostOps0 _
    (StableHlo.forall_writes_sub_of_map rfl) ?_
  revert h; revert b; decide

/-! ## The output array after every write-back -/

/-- Every lane of the output array lies in the block written back at its quotient by 4096. -/
theorem out_covered (i : S8x64x100000.Idx) : ∃ t : Fin grid0.N, i ∈ (((win0 (table m 0)) 2).blk t).view.set := by
  have hi : (i 2).val < 100000 := (i 2).isLt
  have hN : grid0.N = 25 := N_0
  let t : Fin grid0.N := ⟨(i 2).val / 4096, by omega⟩
  have hm : ∀ a : Fin 3, (i a).val - ![0, 0, 4096 * t.val] a < ((win0 (table m 0)) 2).xsize (grid0.coords t) a := by
    intro a
    fin_cases a
    · exact lt_of_lt_of_eq (i 0).isLt (xsize_other m t).1.symm
    · exact lt_of_lt_of_eq (i 1).isLt (xsize_other m t).2.symm
    · refine (xsize_lane m t _ ?_).mpr ?_
      · show (i 2).val - 4096 * ((i 2).val / 4096) < 4096; omega
      · show 4096 * ((i 2).val / 4096) + ((i 2).val - 4096 * ((i 2).val / 4096)) < 100000; omega
  let y : (((win0 (table m 0)) 2).xblock (grid0.coords t)).Idx := fun a => ⟨(i a).val - ![0, 0, 4096 * t.val] a, hm a⟩
  refine ⟨t, ?_⟩
  have h : (((win0 (table m 0)) 2).blk t).view.emb y = i := funext fun a => Fin.ext ((blk_emb m t y a).trans (by
    fin_cases a
    · exact Nat.zero_add _
    · exact Nat.zero_add _
    · show 4096 * ((i 2).val / 4096) + ((i 2).val - 4096 * ((i 2).val / 4096)) = (i 2).val; omega))
  rw [← h]
  exact View.emb_mem_set _ y

/-- After every point the output array is the array to be left. -/
theorem out_final (c : Dev nD) : (dats m 0 c).arrAt (2 : Fin 3) grid0.N = target m c :=
  (dats m 0 c).arrAt_eq_of_cover (2 : Fin 3) (target m c) (fun t _ => Window.cut_fill _ _ _ _)
    fun i => (out_covered m i).imp fun t h => ⟨flush_2 m t, h⟩

/-! ## The run -/

/-- What the run leaves: the result is the kernel's array with its lanes as rows again, the arguments are as they
    were, and every semaphore is back at zero. -/
def Left (r : PUnit × MemSt nD τ sig (Elt F)) : Prop :=
  (∀ c : Dev nD, r.2.mem ((c : Thread nD τ).loc main_v12)
      = transpose S100000x8x64 [2, 0, 1] (target m c) transposes_S8x64x100000_S100000x8x64_2_0_1
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3))
  ∧ r.2.sem = fun _ => 0

/-- The arguments and the result are no array of the kernel. -/
theorem no_array (b : Ref sig .tc) (h : b ∈ ([main_arg0, main_arg1, main_arg2, main_arg3, main_v12] : List (Ref sig .tc))) :
    ∀ w, Pipeline.arrRef spec0 w ≠ b := by
  revert h; revert b; decide

/-- So the kernel's windows leave them alone. -/
theorem unseen (b : Ref sig .tc) (h : b ∈ ([main_arg0, main_arg1, main_arg2, main_arg3, main_v12] : List (Ref sig .tc))) :
    b ∈ Pipeline.restRefs sig spec0 :=
  Pipeline.mem_restRefs_of b (by revert h; revert b; decide) (no_array b h)

/-- What a buffer that is no array of the kernel and not the result holds at the end: what it held at the launch. -/
theorem tail_arg (c : Dev nD) (b : Ref sig .tc) (h : b ∈ ([main_arg0, main_arg1, main_arg2, main_arg3] : List (Ref sig .tc))) :
    Pipeline.afterTail pcfgs (table m) (dats m) 0 (entry m) [hostOps1] c b = m ((c : Thread nD τ).loc b) := by
  have h12 : b ≠ main_v12 := by revert h; revert b; decide
  have hw := no_array b (List.mem_append_left [main_v12] h)
  unfold Pipeline.afterTail
  refine (StableHlo.after_of_writes_sub (W := [main_v12]) _ _ (StableHlo.forall_writes_sub_of_map rfl) ?_).trans ?_
  · simpa using h12
  · exact (Pipeline.withArrays_of_ne spec0 c (entry m c) _ b hw).trans (entry_arg m c b h)

/-- What the result holds at the end: the output array with its lanes as rows. -/
theorem tail_result (c : Dev nD) :
    Pipeline.afterTail pcfgs (table m) (dats m) 0 (entry m) [hostOps1] c main_v12
      = transpose S100000x8x64 [2, 0, 1] (target m c) transposes_S8x64x100000_S100000x8x64_2_0_1 := by
  have hinj : Function.Injective (Pipeline.arrRef spec0) := by decide
  have h11 := (Pipeline.withArrays_arr spec0 hinj c (entry m c) (fun w => (dats m 0 c).arrAt w grid0.N) 2).trans (out_final m c)
  have hop (W : Valuation τ sig (Elt F)) : StableHlo.after hostOps1 W (Proc.devRef .tc main_v12)
      = transpose S100000x8x64 [2, 0, 1] (W (Proc.devRef .tc main_v11)) transposes_S8x64x100000_S100000x8x64_2_0_1 := by
    unfold_abbrev_sides
    after_results
  refine (hop _).trans ?_
  exact congrArg (fun x : S8x64x100000.Idx → Elt F .f32 =>
    transpose S100000x8x64 [2, 0, 1] x transposes_S8x64x100000_S100000x8x64_2_0_1) h11

/-- The operation after the kernel writes no array of the kernel and touches no table. -/
theorem tail_keeps (w : Fin 3) : (Proc.devRef .tc (Pipeline.arrRef spec0 w) : DevRef τ sig)
    ∉ ({Proc.devRef .tc main_v12} : Finset (DevRef τ sig)) :=
  fun h => no_array main_v12 (by decide) w (Proc.devRef_injective _ (Finset.mem_singleton.mp h))
theorem tail_table (k : Fin 1) : (Proc.devRef .tc (pre0.ref k) : DevRef τ sig)
    ∉ ({Proc.devRef .tc main_v11, Proc.devRef .tc main_v12} : Finset (DevRef τ sig)) := by
  have h : ∀ k, pre0.ref k ≠ main_v11 ∧ pre0.ref k ≠ main_v12 := by decide
  intro hm
  rcases Finset.mem_insert.mp hm with e | e
  · exact (h k).1 (Proc.devRef_injective _ e)
  · exact (h k).2 (Proc.devRef_injective _ (Finset.mem_singleton.mp e))

set_option backward.isDefEq.respectTransparency.types false in
/-- Every schedule of the program ends without undefined behaviour, and leaves that. -/
theorem run : θ_run defs (onTc (main (F := F))) ⟨m, fun _ => 0, ρ⟩ (Left m) :=
  Pipeline.θ_run_frameP_around (pcfgs (F := F)) (table m) (dats m) 0 launch0 defs₀ 𝒱₀ m ρ main
    (body_obligation m) (fun c => (dats m 0 c).share_full fun _ => rfl) (fun _ _ => rfl)
    (entry m) [hostOps1]
    (fun ops hops op hop => by
      obtain rfl := List.mem_singleton.mp hops
      obtain rfl := List.mem_singleton.mp hop
      exact Pipeline.sub_tailRefs pre0 spec0 _ hostOps1_sub tail_table)
    (fun ops hops op hop => by
      obtain rfl := List.mem_singleton.mp hops
      obtain rfl := List.mem_singleton.mp hop
      rfl)
    (fun ops hops op hop w => by
      obtain rfl := List.mem_singleton.mp hops
      obtain rfl := List.mem_singleton.mp hop
      exact tail_keeps w)
    (Pipeline.hmainP_around pcfgs 0 defs₀ 𝒱₀ m main [hostOps0] [hostOps1] hostOps0_sub
      ⟨rfl, rfl, rfl, rfl, rfl, rfl, rfl, rfl, rfl, rfl, rfl⟩ main_chain)
    (fun _ _ => rfl)
    (fun c k => by fin_cases k; exact table_eq m c)
    (fun _ _ => rfl) (Left m)
    (fun r h => ⟨fun c =>
      ⟨((h.1 c).2 main_v12 (unseen _ (by decide))).trans (tail_result m c),
       ((h.1 c).2 main_arg0 (unseen _ (by decide))).trans (tail_arg m c main_arg0 (by decide)),
       ((h.1 c).2 main_arg1 (unseen _ (by decide))).trans (tail_arg m c main_arg1 (by decide)),
       ((h.1 c).2 main_arg2 (unseen _ (by decide))).trans (tail_arg m c main_arg2 (by decide)),
       ((h.1 c).2 main_arg3 (unseen _ (by decide))).trans (tail_arg m c main_arg3 (by decide))⟩, h.2⟩)

end Cert.Region
-- ==== Proof.Printed.lean ====
/-
  The kernel as printed and its idealization are one program (hand-written): the second is the first read over the
  extended reals, with no operation replaced, so what is proved of it for every float type holds of the first.
-/
module

public import proofs.«01_k».proof.Kernel
public import proofs.«01_k».proof.KernelIdeal
public import proofs.«01_k».proof.Proof.Gen.Kernel
public import proofs.«01_k».proof.Proof.Gen.KernelIdeal

@[expose] public section

noncomputable section

namespace Cert.Printed

open Idealize.ShloMosaic

variable {F : FTy → Type} [FloatOps F]

/-- The two bodies are one. -/
theorem body_eq : @Cert.Kernel.cc0__body F _ _ = @Cert.KernelIdeal.cc0__body F _ _ := rfl

/-- So are the tables of kernels, -/
theorem kernels_eq : Cert.Kernel.defs₀ (F := F) = Cert.KernelIdeal.defs₀ (F := F) := by
  unfold Cert.Kernel.defs₀ Cert.KernelIdeal.defs₀
  refine congrArg Defs.onTc (funext fun l => funext fun a => ?_)
  fin_cases l
  obtain ⟨t, s⟩ := a
  rfl

/-- the pipelines, -/
theorem pipeline_eq : Cert.Kernel.pcfg0 (F := F) = Cert.KernelIdeal.pcfg0 (F := F) := rfl

/-- the tables with the pipelines' own labels, -/
theorem defs_eq : Cert.Kernel.defs (F := F) = Cert.KernelIdeal.defs (F := F) :=
  congrArg (Pipeline.defs (Cert.KernelIdeal.pcfgs (F := F))) kernels_eq

/-- and the main functions. -/
theorem main_eq : Cert.Kernel.main (F := F) = Cert.KernelIdeal.main (F := F) := rfl

end Cert.Printed

end
-- ==== Proof.Closed.lean ====
/-
  The function that both programs compute, over the extended reals (hand-written).
-/
module

public import Idealize.ShloMosaic.Lib.Pointwise
public import Idealize.ShloMosaic.Lib.IdealHost

@[expose] public section

noncomputable section

namespace Cert

open Idealize.ShloMosaic

/-- The elements of the memory: a region, a slot, a lane of the hidden axis. -/
abbrev Cells : Type := (⟨3, ![100000, 8, 64]⟩ : Shape).Idx

/-- The lanes of the embedding. -/
abbrev Hidden : Type := (⟨1, ![64]⟩ : Shape).Idx

/-- The lanes of the weights: those of the embedding, then those of the memory's row. -/
abbrev Weights : Type := (⟨2, ![1, 128]⟩ : Shape).Idx

/-- The forget gate of region `n` and slot `s`: the logistic function of the weights' product with the embedding and
    with the memory's row. -/
def gateAt (M : Cells → EReal) (o : Hidden → EReal) (W : Weights → EReal) (n : Fin 100000) (s : Fin 8) : EReal :=
  Ideal.logistic ((∑ h : Fin 64, o (ix1 h) * W (ix2 (0 : Fin 1) (⟨h.val, by omega⟩ : Fin 128)))
    + ∑ h : Fin 64, M (ix3 n s h) * W (ix2 (0 : Fin 1) (⟨64 + h.val, by omega⟩ : Fin 128)))

/-- The new memory: the region whose number is the index mixed with the embedding by its gate, the others as they were. -/
def closed (M : Cells → EReal) (o : Hidden → EReal) (W : Weights → EReal) (r : BitVec 32) (n : Fin 100000) (s : Fin 8) (h : Fin 64) : EReal :=
  if BitVec.ofNat 32 n.val = r then M (ix3 n s h) * (1 - gateAt M o W n s) + o (ix1 h) * gateAt M o W n s else M (ix3 n s h)

/-- The new memory as one array. -/
def newMemory (M : Cells → EReal) (o : Hidden → EReal) (W : Weights → EReal) (r : BitVec 32) : Cells → EReal :=
  fun k => closed M o W r (k 0) (k 1) (k 2)

/-- An array is the new memory when it is so at each region, slot and lane. -/
theorem eq_newMemory (M : Cells → EReal) (o : Hidden → EReal) (W : Weights → EReal) (r : BitVec 32) (N : Cells → EReal)
    (h : ∀ n s l, N (ix3 n s l) = closed M o W r n s l) : N = newMemory M o W r := by
  funext k
  refine (congrArg N (funext fun a => ?_)).trans (h (k 0) (k 1) (k 2))
  fin_cases a <;> rfl

end Cert

end
-- ==== Proof.Value.lean ====
/-
  What the kernel leaves, over the extended reals (hand-written): the array in closed form, element by element.
-/
module

public import proofs.«01_k».proof.Proof.Launch
public import proofs.«01_k».proof.Proof.Closed
public import Idealize.ShloMosaic.Lib.Pointwise
public import Idealize.ShloMosaic.Lib.IdealHost

@[expose] public section

noncomputable section

namespace Cert.Region

open Cert.KernelIdeal Cert.KernelIdeal.Gen

open Idealize.ShloMosaic

/-! ## The kernel's operations at an element -/

/-- The sum over the lanes of the block with one lane kept is that lane. -/
theorem oldRow_lone (A : S8x64x100000.Idx → EReal) (n : Fin 100000) (s : Fin 8) (h : Fin 64) :
    oldRow (F := Ideal) (lone (F := Ideal) A n) (ix3 s h (0 : Fin 1)) = A (ix3 s h n) := by
  pointwise [oldRow]
  rw [Finset.sum_eq_single (⟨n.val % 4096, Nat.mod_lt _ (by omega)⟩ : Fin 4096)]
  · exact if_pos rfl
  · intro x _ hx
    exact (if_neg fun e => hx (Fin.ext e)).trans Ideal.ofBits_zero_f32
  · exact fun hn => absurd (Finset.mem_univ _) hn

/-- The gate at a slot. -/
theorem gate_apply (row : FVec Ideal S8x64x1 .f32) (e w1 w2 : FVec Ideal S1x64x1 .f32) (s : Fin 8) :
    gate (F := Ideal) row e w1 w2 (ix3 s (0 : Fin 1) (0 : Fin 1))
      = Ideal.logistic ((∑ h : Fin 64, e (ix3 0 h 0) * w1 (ix3 0 h 0)) + ∑ h : Fin 64, row (ix3 s h 0) * w2 (ix3 0 h 0)) := by
  pointwise [gate]

/-- The new row at an element. -/
theorem newRow_apply (row : FVec Ideal S8x64x1 .f32) (e w1 w2 : FVec Ideal S1x64x1 .f32) (s : Fin 8) (h : Fin 64) :
    newRow (F := Ideal) row e w1 w2 (ix3 s h (0 : Fin 1))
      = row (ix3 s h 0) * (1 - gate (F := Ideal) row e w1 w2 (ix3 s 0 0))
        + e (ix3 0 h 0) * gate (F := Ideal) row e w1 w2 (ix3 s 0 0) := by
  pointwise [newRow]

/-! ## The arrays the kernel reads, at an element -/

variable (m : (ℓ : Loc nD τ sig) → Buf (Elt Ideal) ℓ) (c : Dev nD)

/-- The memory as the kernel reads it: region last. -/
theorem lanes_apply (n : Fin 100000) (s : Fin 8) (h : Fin 64) :
    lanes (F := Ideal) m c (ix3 s h n) = m (c, Proc.devRef .tc main_arg0) (ix3 n s h) := by
  rw [lanes_eq]
  pointwise

/-- The block of one row of a stack of three is that row. -/
theorem window_apply (x : FVec Ideal S3x64x1 .f32) (i : Fin 3) (hin : ∀ a, (![i.val, 0, 0] : Fin 3 → Nat) a + S1x64x1.size a ≤ S3x64x1.size a) (h : Fin 64) :
    VecWindow.window x ![i.val, 0, 0] S1x64x1.size hin (ix3 (0 : Fin 1) h (0 : Fin 1)) = x (ix3 i h (0 : Fin 1)) := by
  refine congrArg x (funext fun a => Fin.ext ?_)
  fin_cases a
  · show i.val + 1 * 0 = i.val
    omega
  · show 0 + 1 * h.val = h.val
    omega
  · rfl

/-- The embedding, as the kernel reads it. -/
theorem emb_apply (h : Fin 64) :
    VecWindow.window (stacked (F := Ideal) m c) ![0, 0, 0] S1x64x1.size inb_S3x64x1_S1x64x1_0_0_0 (ix3 (0 : Fin 1) h (0 : Fin 1))
      = m (c, Proc.devRef .tc main_arg1) (ix1 h) := by
  refine (window_apply _ (0 : Fin 3) inb_S3x64x1_S1x64x1_0_0_0 h).trans ?_
  rw [stacked_eq]
  pointwise

/-- The weights of the embedding, as the kernel reads them. -/
theorem w1_apply (h : Fin 64) :
    VecWindow.window (stacked (F := Ideal) m c) ![1, 0, 0] S1x64x1.size inb_S3x64x1_S1x64x1_1_0_0 (ix3 (0 : Fin 1) h (0 : Fin 1))
      = m (c, Proc.devRef .tc main_arg2) (ix2 (0 : Fin 1) (⟨h.val, by omega⟩ : Fin 128)) := by
  refine (window_apply _ (1 : Fin 3) inb_S3x64x1_S1x64x1_1_0_0 h).trans ?_
  rw [stacked_eq]
  pointwise

/-- The weights of the row, as the kernel reads them. -/
theorem w2_apply (h : Fin 64) :
    VecWindow.window (stacked (F := Ideal) m c) ![2, 0, 0] S1x64x1.size inb_S3x64x1_S1x64x1_2_0_0 (ix3 (0 : Fin 1) h (0 : Fin 1))
      = m (c, Proc.devRef .tc main_arg2) (ix2 (0 : Fin 1) (⟨64 + h.val, by omega⟩ : Fin 128)) := by
  refine (window_apply _ (2 : Fin 3) inb_S3x64x1_S1x64x1_2_0_0 h).trans ?_
  rw [stacked_eq]
  pointwise

/-- The updated array is the closed form, whatever arrays hold the memory, the embedding and the weights. -/
theorem updated_apply (r : BitVec 32) (A : S8x64x100000.Idx → EReal) (e w1 w2 : FVec Ideal S1x64x1 .f32)
    (M : Cells → EReal) (o : Hidden → EReal) (W : Weights → EReal)
    (hA : ∀ n s h, A (ix3 s h n) = M (ix3 n s h)) (he : ∀ h : Fin 64, e (ix3 (0 : Fin 1) h (0 : Fin 1)) = o (ix1 h))
    (h1 : ∀ h : Fin 64, w1 (ix3 (0 : Fin 1) h (0 : Fin 1)) = W (ix2 (0 : Fin 1) (⟨h.val, by omega⟩ : Fin 128)))
    (h2 : ∀ h : Fin 64, w2 (ix3 (0 : Fin 1) h (0 : Fin 1)) = W (ix2 (0 : Fin 1) (⟨64 + h.val, by omega⟩ : Fin 128)))
    (n : Fin 100000) (s : Fin 8) (h : Fin 64) :
    updated (F := Ideal) r A e w1 w2 (ix3 s h n) = closed M o W r n s h := by
  unfold updated closed gateAt
  show (if BitVec.ofNat 32 n.val = r then newRow (oldRow (lone A n)) e w1 w2 (ix3 s h (0 : Fin 1)) else A (ix3 s h n)) = _
  simp only [newRow_apply, gate_apply, oldRow_lone, hA, he, h1, h2]

/-- What the kernel leaves is the closed form. -/
theorem left_apply (n : Fin 100000) (s : Fin 8) (h : Fin 64) :
    transpose S100000x8x64 [2, 0, 1] (target (F := Ideal) m c) transposes_S8x64x100000_S100000x8x64_2_0_1 (ix3 n s h)
      = closed (m (c, Proc.devRef .tc main_arg0)) (m (c, Proc.devRef .tc main_arg1)) (m (c, Proc.devRef .tc main_arg2)) (index m) n s h := by
  pointwise
  exact updated_apply (index m) _ _ _ _ _ _ _ (lanes_apply m c) (emb_apply m c) (w1_apply m c) (w2_apply m c) n s h

end Cert.Region
-- ==== Proof.Reference.lean ====
/-
  The run of the reference (hand-written): the program as the list of its operations, and what it leaves as one term of
  its arguments.
-/
module

public import proofs.«01_k».proof.Proof.Gen.ReferenceIdeal
public import Idealize.ShloMosaic.Lib.StableHlo.Run
public import Idealize.ShloMosaic.Lib.StableHlo.RunClose

@[expose] public section

noncomputable section

namespace Cert.Plain

open Cert.ReferenceIdeal Cert.ReferenceIdeal.Gen Idealize.ShloMosaic Idealize.ShloMosaic.TcCoe Idealize.SL.Sem Idealize.ShloMosaic.StableHlo

variable {F : FTy → Type} [FloatOps F]

/-! ## What the reference computes, step by step -/

/-- An index, counted from the end of an axis of `n` when it is negative. -/
def wrapped (r : IVec S_ 32) (n : BitVec 32) : IVec S_ 32 := select (cmpi .slt r (constantI S_ 32 0#32)) (addi r (constantI S_ 32 n)) r

/-- Where the row of the memory starts: the index on the first axis, zero on the two others. -/
def starts (r : IVec S_ 32) : Fin 3 → IVec S_ 32 :=
  ![wrapped r 100000#32, wrapped (constantI S_ 32 0#32) 8#32, wrapped (constantI S_ 32 0#32) 64#32]

/-- The slice of the memory at given starts, each clamped so that the slice fits. -/
def sliceAt (M : FVec F S100000x8x64 .f32) (i : Fin 3 → IVec S_ 32) : FVec F S1x8x64 .f32 :=
  Host.dynamicSlice S1x8x64 M (fun k => (i k (Shape.Idx.first h_S_)).toInt) sliceFits_S100000x8x64_S1x8x64

/-- Two arrays side by side on the last axis. -/
def joined (a b : FVec F S8x64 .f32) : FVec F S8x128 .f32 :=
  concatenate S8x128 1 [⟨S8x64, a⟩, ⟨S8x64, b⟩] concatenates_S8x64_S8x64_S8x128_d1

/-- The embedding, once for each slot. -/
def slots (o : FVec F S64 .f32) : FVec F S8x64 .f32 :=
  broadcastInDim S8x64 ![0, 1] bcast_S1x64_S8x64_0_1 (broadcastInDim S1x64 ![1] bcast_S64_S1x64_1 o)

/-- The weights' product with the embedding and the row, slot by slot. -/
def scores (M : FVec F S100000x8x64 .f32) (o : FVec F S64 .f32) (W : FVec F S1x128 .f32) (r : IVec S_ 32) : FVec F S8x1 .f32 :=
  Host.dotGeneral dot_S8x128_S128x1_S8x1_1_0_0_1_n_n none
    (joined (slots o) (shapeCast S8x64 (sliceAt M (starts r)) shapeCasts_S1x8x64_S8x64))
    (transpose S128x1 [1, 0] W transposes_S1x128_S128x1_1_0)

/-- The gate of a score. -/
def gates (z : FVec F S8x1 .f32) : FVec F S8x1 .f32 :=
  Host.divf (broadcastInDim S8x1 ![] bcast_S_S8x1 (constant S_ .f32 0x3F800000#32))
    (addf (broadcastInDim S8x1 ![] bcast_S_S8x1 (constant S_ .f32 0x3F800000#32)) (Host.exp (Host.negf z)))

/-- The gates written into an array of zeros at the row of the index. -/
def spread (r : IVec S_ 32) (u : FVec F S8x1 .f32) : FVec F S100000x8x1 .f32 :=
  Host.scatter scatter_S100000x8x1_S1_S8x1_01_0_0_0 (fun _ b => b)
    (broadcastInDim S100000x8x1 ![] bcast_S_S100000x8x1 (constant S_ .f32 0x00000000#32))
    (broadcastInDim S1 ![] bcast_S_S1 (wrapped r 100000#32)) u

/-- The memory and the embedding mixed by the spread gates. -/
def mixed (M : FVec F S100000x8x64 .f32) (o : FVec F S64 .f32) (p : FVec F S100000x8x1 .f32) : FVec F S100000x8x64 .f32 :=
  addf
    (mulf M (broadcastInDim S100000x8x64 ![0, 1, 2] bcast_S100000x8x1_S100000x8x64_0_1_2
      (subf (broadcastInDim S100000x8x1 ![] bcast_S_S100000x8x1 (constant S_ .f32 0x3F800000#32)) p)))
    (mulf
      (broadcastInDim S100000x8x64 ![0, 1, 2] bcast_S1x8x64_S100000x8x64_0_1_2 (broadcastInDim S1x8x64 ![1, 2] bcast_S8x64_S1x8x64_1_2 (slots o)))
      (broadcastInDim S100000x8x64 ![0, 1, 2] bcast_S100000x8x1_S100000x8x64_0_1_2 p))

/-! ## The program as a list of operations -/

/-- The reference's operations, in order. -/
abbrev ops : List (HloOp τ sig (Elt F)) :=
  [ nullary main_c (constantI S_ 32 0#32),
    binary main_arg3 main_c main_v0 (cmpi .slt : (⟨S_, .i32⟩ : BufTy).Contents (Elt F) → (⟨S_, .i32⟩ : BufTy).Contents (Elt F) → (⟨S_, .i1⟩ : BufTy).Contents (Elt F)),
    nullary main_c_0 (constantI S_ 32 100000#32),
    binary main_arg3 main_c_0 main_v1 (addi : (⟨S_, .i32⟩ : BufTy).Contents (Elt F) → (⟨S_, .i32⟩ : BufTy).Contents (Elt F) → (⟨S_, .i32⟩ : BufTy).Contents (Elt F)),
    ternary main_v0 main_v1 main_arg3 main_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1 (constantI S_ 32 0#32),
    nullary main_c_2 (constantI S_ 32 0#32),
    binary main_c_1 main_c_2 main_v3 (cmpi .slt : (⟨S_, .i32⟩ : BufTy).Contents (Elt F) → (⟨S_, .i32⟩ : BufTy).Contents (Elt F) → (⟨S_, .i1⟩ : BufTy).Contents (Elt F)),
    nullary main_c_3 (constantI S_ 32 0#32),
    nullary main_c_4 (constantI S_ 32 8#32),
    binary main_c_3 main_c_4 main_v4 (addi : (⟨S_, .i32⟩ : BufTy).Contents (Elt F) → (⟨S_, .i32⟩ : BufTy).Contents (Elt F) → (⟨S_, .i32⟩ : BufTy).Contents (Elt F)),
    nullary main_c_5 (constantI S_ 32 0#32),
    ternary main_v3 main_v4 main_c_5 main_v5 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_6 (constantI S_ 32 0#32),
    nullary main_c_7 (constantI S_ 32 0#32),
    binary main_c_6 main_c_7 main_v6 (cmpi .slt : (⟨S_, .i32⟩ : BufTy).Contents (Elt F) → (⟨S_, .i32⟩ : BufTy).Contents (Elt F) → (⟨S_, .i1⟩ : BufTy).Contents (Elt F)),
    nullary main_c_8 (constantI S_ 32 0#32),
    nullary main_c_9 (constantI S_ 32 64#32),
    binary main_c_8 main_c_9 main_v7 (addi : (⟨S_, .i32⟩ : BufTy).Contents (Elt F) → (⟨S_, .i32⟩ : BufTy).Contents (Elt F) → (⟨S_, .i32⟩ : BufTy).Contents (Elt F)),
    nullary main_c_10 (constantI S_ 32 0#32),
    ternary main_v6 main_v7 main_c_10 main_v8 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_arg0 ![main_v2, main_v5, main_v8] ⟨S_, .i32⟩ main_v9 ((fun x i => Host.dynamicSlice S1x8x64 x (fun k => (i k (Shape.Idx.first h_S_)).toInt) sliceFits_S100000x8x64_S1x8x64) : (⟨S100000x8x64, .f32⟩ : BufTy).Contents (Elt F) → (Fin 3 → (⟨S_, .i32⟩ : BufTy).Contents (Elt F)) → (⟨S1x8x64, .f32⟩ : BufTy).Contents (Elt F)),
    reshape main_v9 main_v10 (rfl : (.f32 : EltTy) = .f32) shapeCasts_S1x8x64_S8x64,
    unary main_arg1 main_v11 (broadcastInDim S1x64 ![1] bcast_S64_S1x64_1 : (⟨S64, .f32⟩ : BufTy).Contents (Elt F) → (⟨S1x64, .f32⟩ : BufTy).Contents (Elt F)),
    unary main_v11 main_v12 (broadcastInDim S8x64 ![0, 1] bcast_S1x64_S8x64_0_1 : (⟨S1x64, .f32⟩ : BufTy).Contents (Elt F) → (⟨S8x64, .f32⟩ : BufTy).Contents (Elt F)),
    binary main_v12 main_v10 main_v13 joined,
    unary main_arg2 main_v14 ((transpose S128x1 [1, 0] · transposes_S1x128_S128x1_1_0) : (⟨S1x128, .f32⟩ : BufTy).Contents (Elt F) → (⟨S128x1, .f32⟩ : BufTy).Contents (Elt F)),
    binary main_v13 main_v14 main_v15 ((fun l r => Host.dotGeneral dot_S8x128_S128x1_S8x1_1_0_0_1_n_n none l r) : (⟨S8x128, .f32⟩ : BufTy).Contents (Elt F) → (⟨S128x1, .f32⟩ : BufTy).Contents (Elt F) → (⟨S8x1, .f32⟩ : BufTy).Contents (Elt F)),
    unary main_v15 main_v16 (Host.negf : (⟨S8x1, .f32⟩ : BufTy).Contents (Elt F) → (⟨S8x1, .f32⟩ : BufTy).Contents (Elt F)),
    unary main_v16 main_v17 (Host.exp : (⟨S8x1, .f32⟩ : BufTy).Contents (Elt F) → (⟨S8x1, .f32⟩ : BufTy).Contents (Elt F)),
    nullary main_cst (constant S_ .f32 0x3F800000#32),
    unary main_cst main_v18 (broadcastInDim S8x1 ![] bcast_S_S8x1 : (⟨S_, .f32⟩ : BufTy).Contents (Elt F) → (⟨S8x1, .f32⟩ : BufTy).Contents (Elt F)),
    binary main_v18 main_v17 main_v19 (addf : (⟨S8x1, .f32⟩ : BufTy).Contents (Elt F) → (⟨S8x1, .f32⟩ : BufTy).Contents (Elt F) → (⟨S8x1, .f32⟩ : BufTy).Contents (Elt F)),
    nullary main_cst_11 (constant S_ .f32 0x3F800000#32),
    unary main_cst_11 main_v20 (broadcastInDim S8x1 ![] bcast_S_S8x1 : (⟨S_, .f32⟩ : BufTy).Contents (Elt F) → (⟨S8x1, .f32⟩ : BufTy).Contents (Elt F)),
    binary main_v20 main_v19 main_v21 (Host.divf : (⟨S8x1, .f32⟩ : BufTy).Contents (Elt F) → (⟨S8x1, .f32⟩ : BufTy).Contents (Elt F) → (⟨S8x1, .f32⟩ : BufTy).Contents (Elt F)),
    nullary main_cst_12 (constant S_ .f32 0x00000000#32),
    unary main_cst_12 main_v22 (broadcastInDim S100000x8x1 ![] bcast_S_S100000x8x1 : (⟨S_, .f32⟩ : BufTy).Contents (Elt F) → (⟨S100000x8x1, .f32⟩ : BufTy).Contents (Elt F)),
    nullary main_c_13 (constantI S_ 32 0#32),
    binary main_arg3 main_c_13 main_v23 (cmpi .slt : (⟨S_, .i32⟩ : BufTy).Contents (Elt F) → (⟨S_, .i32⟩ : BufTy).Contents (Elt F) → (⟨S_, .i1⟩ : BufTy).Contents (Elt F)),
    nullary main_c_14 (constantI S_ 32 100000#32),
    binary main_arg3 main_c_14 main_v24 (addi : (⟨S_, .i32⟩ : BufTy).Contents (Elt F) → (⟨S_, .i32⟩ : BufTy).Contents (Elt F) → (⟨S_, .i32⟩ : BufTy).Contents (Elt F)),
    ternary main_v23 main_v24 main_arg3 main_v25 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_v25 main_v26 (broadcastInDim S1 ![] bcast_S_S1 : (⟨S_, .i32⟩ : BufTy).Contents (Elt F) → (⟨S1, .i32⟩ : BufTy).Contents (Elt F)),
    ternary main_v22 main_v26 main_v21 main_v27 ((fun x i u => Host.scatter scatter_S100000x8x1_S1_S8x1_01_0_0_0 (fun _ b => b) x i u) : (⟨S100000x8x1, .f32⟩ : BufTy).Contents (Elt F) → (⟨S1, .i32⟩ : BufTy).Contents (Elt F) → (⟨S8x1, .f32⟩ : BufTy).Contents (Elt F) → (⟨S100000x8x1, .f32⟩ : BufTy).Contents (Elt F)),
    nullary main_cst_15 (constant S_ .f32 0x3F800000#32),
    unary main_cst_15 main_v28 (broadcastInDim S100000x8x1 ![] bcast_S_S100000x8x1 : (⟨S_, .f32⟩ : BufTy).Contents (Elt F) → (⟨S100000x8x1, .f32⟩ : BufTy).Contents (Elt F)),
    binary main_v28 main_v27 main_v29 (subf : (⟨S100000x8x1, .f32⟩ : BufTy).Contents (Elt F) → (⟨S100000x8x1, .f32⟩ : BufTy).Contents (Elt F) → (⟨S100000x8x1, .f32⟩ : BufTy).Contents (Elt F)),
    unary main_v29 main_v30 (broadcastInDim S100000x8x64 ![0, 1, 2] bcast_S100000x8x1_S100000x8x64_0_1_2 : (⟨S100000x8x1, .f32⟩ : BufTy).Contents (Elt F) → (⟨S100000x8x64, .f32⟩ : BufTy).Contents (Elt F)),
    binary main_arg0 main_v30 main_v31 (mulf : (⟨S100000x8x64, .f32⟩ : BufTy).Contents (Elt F) → (⟨S100000x8x64, .f32⟩ : BufTy).Contents (Elt F) → (⟨S100000x8x64, .f32⟩ : BufTy).Contents (Elt F)),
    unary main_v12 main_v32 (broadcastInDim S1x8x64 ![1, 2] bcast_S8x64_S1x8x64_1_2 : (⟨S8x64, .f32⟩ : BufTy).Contents (Elt F) → (⟨S1x8x64, .f32⟩ : BufTy).Contents (Elt F)),
    unary main_v32 main_v33 (broadcastInDim S100000x8x64 ![0, 1, 2] bcast_S1x8x64_S100000x8x64_0_1_2 : (⟨S1x8x64, .f32⟩ : BufTy).Contents (Elt F) → (⟨S100000x8x64, .f32⟩ : BufTy).Contents (Elt F)),
    unary main_v27 main_v34 (broadcastInDim S100000x8x64 ![0, 1, 2] bcast_S100000x8x1_S100000x8x64_0_1_2 : (⟨S100000x8x1, .f32⟩ : BufTy).Contents (Elt F) → (⟨S100000x8x64, .f32⟩ : BufTy).Contents (Elt F)),
    binary main_v33 main_v34 main_v35 (mulf : (⟨S100000x8x64, .f32⟩ : BufTy).Contents (Elt F) → (⟨S100000x8x64, .f32⟩ : BufTy).Contents (Elt F) → (⟨S100000x8x64, .f32⟩ : BufTy).Contents (Elt F)),
    binary main_v31 main_v35 main_v36 (addf : (⟨S100000x8x64, .f32⟩ : BufTy).Contents (Elt F) → (⟨S100000x8x64, .f32⟩ : BufTy).Contents (Elt F) → (⟨S100000x8x64, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub .., unary_bufs_sub .., unary_bufs_sub .., binary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., nullary_bufs_sub .., binary_bufs_sub .., nullary_bufs_sub .., binary_bufs_sub .., ternary_bufs_sub .., unary_bufs_sub .., ternary_bufs_sub .., nullary_bufs_sub .., unary_bufs_sub .., binary_bufs_sub .., unary_bufs_sub .., binary_bufs_sub .., unary_bufs_sub .., unary_bufs_sub .., unary_bufs_sub .., binary_bufs_sub .., binary_bufs_sub ..⟩

set_option maxRecDepth 8192 in
set_option maxHeartbeats 1000000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36)
        = mixed (m ((c.tc : Thread nD τ).loc main_arg0)) (m ((c.tc : Thread nD τ).loc main_arg1))
            (spread (m ((c.tc : Thread nD τ).loc main_arg3))
              (gates (scores (m ((c.tc : Thread nD τ).loc main_arg0)) (m ((c.tc : Thread nD τ).loc main_arg1))
                (m ((c.tc : Thread nD τ).loc main_arg2)) (m ((c.tc : Thread nD τ).loc main_arg3)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c main_v36).trans ?_, (h c main_arg0).trans ?_, (h c main_arg1).trans ?_,
    (h c main_arg2).trans ?_, (h c main_arg3).trans ?_⟩)
    (run_seq scopedRefs_eq scopedSems_eq defs main (fun _ => ops) main_eq (fun _ => ops_sub) m ρ)
  · after_results_simp_entrywise
    unfold mixed spread gates scores slots starts sliceAt wrapped
    rfl
  all_goals after_results_simp_entrywise

end Cert.Plain

end
-- ==== Proof.Plain.lean ====
/-
  What the reference leaves, over the extended reals (hand-written): the array in closed form, element by element, when
  the index is not negative.
-/
module

public import proofs.«01_k».proof.Proof.Reference
public import proofs.«01_k».proof.Proof.Closed
public import Idealize.ShloMosaic.Lib.Routing.OpsSet

@[expose] public section

noncomputable section

namespace Cert.Plain

open Cert.ReferenceIdeal Cert.ReferenceIdeal.Gen
open Idealize.ShloMosaic

/-- The word an index array of no axes holds. -/
abbrev word (r : IVec S_ 32) : BitVec 32 := r (Shape.Idx.first h_S_)

/-- An index that is not negative is not wrapped. -/
theorem wrapped_of_nonneg (r : IVec S_ 32) (n : BitVec 32) (k : S_.Idx) (h : 0 ≤ (r k).toInt) : wrapped r n k = r k := by
  have hs : BitVec.slt (r k) 0#32 = false := by
    rw [Bool.eq_false_iff]
    intro e
    have := BitVec.slt_iff_toInt_lt.mp e
    rw [show (0#32).toInt = 0 by decide] at this
    omega
  show (if BitVec.ofBool (BitVec.slt (r k) 0#32) = 1#1 then _ else r k) = r k
  rw [hs]
  rfl

/-- The slice at a row inside the memory is that row. -/
theorem sliceAt_apply (M : FVec Ideal S100000x8x64 .f32) (r : IVec S_ 32) (n : Fin 100000) (hr : (word r).toInt = n.val) (s : Fin 8) (h : Fin 64) :
    sliceAt M (starts r) (ix3 (0 : Fin 1) s h) = M (ix3 n s h) := by
  unfold sliceAt
  rw [Host.dynamicSlice_apply]
  refine congrArg M (funext fun a => Fin.ext ?_)
  have key : ∀ a : Fin 3, Host.clampedStart S100000x8x64 S1x8x64 rfl (fun k => (starts r k (Shape.Idx.first h_S_)).toInt) a
      = (![n.val, 0, 0] : Fin 3 → ℕ) a := by
    intro a
    fin_cases a
    · refine Host.clampedStart_of_le _ _ _ _ ?_ ?_
      · show (wrapped r 100000#32 (Shape.Idx.first h_S_)).toInt = n.val
        rw [wrapped_of_nonneg _ _ _ (by show 0 ≤ (word r).toInt; omega)]
        exact hr
      · show n.val + 1 ≤ 100000
        omega
    · exact Host.clampedStart_of_le _ _ _ 0 rfl (by decide)
    · exact Host.clampedStart_of_le _ _ _ 0 rfl (by decide)
  fin_cases a
  · show Host.clampedStart S100000x8x64 S1x8x64 rfl _ (0 : Fin 3) + 0 = n.val
    exact key 0
  · show Host.clampedStart S100000x8x64 S1x8x64 rfl _ (1 : Fin 3) + s.val = s.val
    rw [key 1]; exact Nat.zero_add _
  · show Host.clampedStart S100000x8x64 S1x8x64 rfl _ (2 : Fin 3) + h.val = h.val
    rw [key 2]; exact Nat.zero_add _

/-- The weights' product with the embedding and a row, as the two halves of the sum. -/
theorem scores_apply (M : FVec Ideal S100000x8x64 .f32) (o : FVec Ideal S64 .f32) (W : FVec Ideal S1x128 .f32) (r : IVec S_ 32)
    (n : Fin 100000) (hr : (word r).toInt = n.val) (s : Fin 8) :
    scores M o W r (ix2 s (0 : Fin 1))
      = (∑ h : Fin 64, o (ix1 h) * W (ix2 (0 : Fin 1) (⟨h.val, by omega⟩ : Fin 128)))
        + ∑ h : Fin 64, M (ix3 n s h) * W (ix2 (0 : Fin 1) (⟨64 + h.val, by omega⟩ : Fin 128)) := by
  have hs := sliceAt_apply M r n hr s
  pointwise [scores, joined, slots]
  simp only [hs]

/-- The gate of a score. -/
theorem gates_apply (z : FVec Ideal S8x1 .f32) (s : Fin 8) : gates z (ix2 s (0 : Fin 1)) = Ideal.logistic (z (ix2 s (0 : Fin 1))) := by
  pointwise [gates]
  rfl

/-- The mixture at an element. -/
theorem mixed_apply (M : FVec Ideal S100000x8x64 .f32) (o : FVec Ideal S64 .f32) (p : FVec Ideal S100000x8x1 .f32) (n : Fin 100000) (s : Fin 8) (h : Fin 64) :
    mixed M o p (ix3 n s h) = M (ix3 n s h) * (1 - p (ix3 n s (0 : Fin 1))) + o (ix1 h) * p (ix3 n s (0 : Fin 1)) := by
  pointwise [mixed, slots]

/-- An update's coordinate inside its window: none on the first axis, its own two on the others. -/
theorem window_eq (s' : Fin 8) (a : Fin 3) :
    scatter_S100000x8x1_S1_S8x1_01_0_0_0.window (ix2 s' (0 : Fin 1)) a = (![0, s'.val, 0] : Fin 3 → ℕ) a := by
  fin_cases a
  · rfl
  · rfl
  · rfl

/-- Where an update's window starts: at the index on the first axis, at zero on the others. -/
theorem start_eq (idx : IVec S1 32) (s' : Fin 8) (a : Fin 3) :
    scatter_S100000x8x1_S1_S8x1_01_0_0_0.start (ix2 s' (0 : Fin 1)) idx a = (![(idx (ix1 (0 : Fin 1))).toInt, 0, 0] : Fin 3 → ℤ) a := by
  fin_cases a
  · show (idx _).toInt = _
    refine congrArg (fun t => (idx t).toInt) (funext fun b => ?_)
    fin_cases b
    exact Subsingleton.elim (α := Fin 1) _ _
  · rfl
  · rfl

/-- Where the update of a slot lands: at the row of the index, read signed. -/
theorem lands (idx : IVec S1 32) (s' : Fin 8) (n : Fin 100000) (s : Fin 8) :
    scatter_S100000x8x1_S1_S8x1_01_0_0_0.resultIdx? (ix2 s' (0 : Fin 1)) idx = some (ix3 n s (0 : Fin 1))
      ↔ (idx (ix1 (0 : Fin 1))).toInt = n.val ∧ s' = s := by
  unfold ScatterDims.resultIdx?
  constructor
  · intro e
    split at e
    · have q := Option.some.inj e
      have q0 := congrArg Fin.val (congrFun q (0 : Fin 3))
      have q1 := congrArg Fin.val (congrFun q (1 : Fin 3))
      rename_i hb
      have b0 := hb (0 : Fin 3)
      dsimp only at q0 q1
      rw [window_eq, start_eq] at q0 q1 b0
      change ((idx (ix1 (0 : Fin 1))).toInt + ((0 : ℕ) : ℤ)).toNat = n.val at q0
      change ((0 : ℤ) + (s'.val : ℤ)).toNat = s.val at q1
      change 0 ≤ (idx (ix1 (0 : Fin 1))).toInt + ((0 : ℕ) : ℤ) ∧ _ at b0
      exact ⟨by omega, Fin.ext (by omega)⟩
    · exact absurd e (by simp)
  · rintro ⟨e, rfl⟩
    have hb : ∀ a : Fin 3, 0 ≤ scatter_S100000x8x1_S1_S8x1_01_0_0_0.start (ix2 s' (0 : Fin 1)) idx a
          + scatter_S100000x8x1_S1_S8x1_01_0_0_0.window (ix2 s' (0 : Fin 1)) a
        ∧ scatter_S100000x8x1_S1_S8x1_01_0_0_0.start (ix2 s' (0 : Fin 1)) idx a
          + scatter_S100000x8x1_S1_S8x1_01_0_0_0.window (ix2 s' (0 : Fin 1)) a < (S100000x8x1.size a : ℤ) := by
      intro a
      rw [window_eq, start_eq, e]
      fin_cases a
      · show 0 ≤ (n.val : ℤ) + ((0 : ℕ) : ℤ) ∧ (n.val : ℤ) + ((0 : ℕ) : ℤ) < ((100000 : ℕ) : ℤ)
        omega
      · show 0 ≤ (0 : ℤ) + (s'.val : ℤ) ∧ (0 : ℤ) + (s'.val : ℤ) < ((8 : ℕ) : ℤ)
        omega
      · show 0 ≤ (0 : ℤ) + ((0 : ℕ) : ℤ) ∧ (0 : ℤ) + ((0 : ℕ) : ℤ) < ((1 : ℕ) : ℤ)
        omega
    rw [dif_pos hb]
    refine congrArg some (funext fun a => Fin.ext ?_)
    dsimp only
    rw [window_eq, start_eq, e]
    fin_cases a
    · show ((n.val : ℤ) + ((0 : ℕ) : ℤ)).toNat = n.val
      omega
    · show ((0 : ℤ) + (s'.val : ℤ)).toNat = s'.val
      omega
    · rfl

/-- The spread gates at an element: the gate of its slot at the row of the index, zero elsewhere. -/
theorem spread_apply (r : IVec S_ 32) (u : FVec Ideal S8x1 .f32) (h0 : 0 ≤ (word r).toInt) (n : Fin 100000) (s : Fin 8) :
    spread r u (ix3 n s (0 : Fin 1)) = if (word r).toInt = n.val then u (ix2 s (0 : Fin 1)) else 0 := by
  have hidx : broadcastInDim S1 ![] bcast_S_S1 (wrapped r 100000#32) (ix1 (0 : Fin 1)) = word r := by
    have hk : ∀ k : S_.Idx, k = Shape.Idx.first h_S_ := fun k => funext fun a => a.elim0
    exact (congrArg (wrapped r 100000#32) (hk _)).trans (wrapped_of_nonneg r _ _ h0)
  have hu : ∀ k : S8x1.Idx, k = ix2 (k 0) (0 : Fin 1) := fun k => funext fun a => by
    fin_cases a
    · rfl
    · exact Subsingleton.elim (α := Fin 1) _ _
  unfold spread
  by_cases e : (word r).toInt = n.val
  · rw [if_pos e]
    refine Routing.scatter_set_hit _ _ _ _ _ _ (fun k hk => ?_) (ix2 s (0 : Fin 1)) ((lands _ s n s).mpr ⟨by rw [hidx]; exact e, rfl⟩)
    rw [hu k] at hk ⊢
    rw [((lands _ _ n s).mp hk).2]
    rfl
  · rw [if_neg e]
    refine (Routing.scatter_set_miss _ _ _ _ _ fun k hk => e ?_).trans ?_
    · rw [hu k] at hk
      have := ((lands _ _ n s).mp hk).1
      rwa [hidx] at this
    · exact Ideal.ofBits_zero_f32

/-- What the reference leaves is the closed form. -/
theorem left_apply (M : FVec Ideal S100000x8x64 .f32) (o : FVec Ideal S64 .f32) (W : FVec Ideal S1x128 .f32) (r : IVec S_ 32)
    (h0 : 0 ≤ (word r).toInt) (n : Fin 100000) (s : Fin 8) (h : Fin 64) :
    mixed M o (spread r (gates (scores M o W r))) (ix3 n s h) = closed M o W (word r) n s h := by
  have hn : (BitVec.ofNat 32 n.val).toInt = n.val := by
    rw [BitVec.toInt_eq_toNat_of_lt] <;> rw [BitVec.toNat_ofNat] <;> omega
  rw [mixed_apply, spread_apply r _ h0]
  unfold closed
  by_cases e : (word r).toInt = n.val
  · rw [if_pos e, if_pos (BitVec.eq_of_toInt_eq (hn.trans e.symm)), gates_apply, scores_apply M o W r n e]
    rfl
  · rw [if_neg e, if_neg fun q => e (by rw [← q, hn])]
    simp

end Cert.Plain

end
-- ==== Proof.lean ====
/-
  The certificate (hand-written): every claim, from the run of the kernel, the run of the reference and the closed form
  that both leave.
-/
module

public import proofs.«01_k».proof.Defs
public import proofs.«01_k».proof.Proof.Gen.Kernel
public import proofs.«01_k».proof.Proof.Gen.ReferenceIdeal
public import proofs.«01_k».proof.Proof.Launch
public import proofs.«01_k».proof.Proof.Printed
public import proofs.«01_k».proof.Proof.Value
public import proofs.«01_k».proof.Proof.Plain
public import Idealize.ShloMosaic.Lib.Claim
public import Idealize.ShloMosaic.Lib.Quiescent

@[expose] public section

noncomputable section

namespace Cert.Proof

open Idealize.ShloMosaic Idealize.SL.Sem
open Idealize.ShloMosaic.TcCoe

/-! ## The frames -/

/-- The idealized kernel terminates, leaves its arguments as they were and every counter at zero. -/
theorem frame_KernelIdeal : Cert.quiescent_KernelIdeal := fun m g _ =>
  (θ_run (Cert.KernelIdeal.defs (F := Ideal)) _ _).mono (fun _ h => ⟨fun c => (h.1 c).2, h.2⟩) (Cert.Region.run (F := Ideal) m g)

/-- The kernel does so as printed. -/
theorem frame_Kernel : Cert.quiescent_Kernel := fun m g _ => by
  rw [Cert.Printed.defs_eq, Cert.Printed.main_eq]
  exact (θ_run (Cert.KernelIdeal.defs (F := Bits)) _ _).mono
    (fun (r : PUnit × MemSt Cert.KernelIdeal.nD Cert.KernelIdeal.τ Cert.KernelIdeal.sig (Elt Bits)) (h : Cert.Region.Left m r) =>
      ⟨fun c => (h.1 c).2, h.2⟩) (Cert.Region.run (F := Bits) m g)

/-- And so does the reference. -/
theorem frame_ReferenceIdeal : Cert.quiescent_ReferenceIdeal := fun m g _ =>
  (θ_run (Cert.ReferenceIdeal.defs (F := Ideal)) _ _).mono
    (fun r h => ⟨fun c => (h c).2, sem_eq_zero_of_no_sems (by decide) r.2⟩) (Cert.Plain.run (F := Ideal) m g)

/-! ## The value -/

/-- The precondition's side conditions: there are none. -/
instance preFacts : Cert.Pre_not_negative.Facts := ⟨⟩

/-- The precondition says that the index, read signed, is not negative. -/
theorem index_nonneg (M : FVec Ideal Cert.KernelIdeal.S100000x8x64 .f32) (o : FVec Ideal Cert.KernelIdeal.S64 .f32)
    (W : FVec Ideal Cert.KernelIdeal.S1x128 .f32) (r : IVec Cert.KernelIdeal.S_ 32)
    (h : Cert.Pre_not_negative.fn (F := Ideal) M o W r = fun _ => 1#1) : 0 ≤ (Cert.Plain.word r).toInt := by
  have e : BitVec.ofBool (BitVec.sle 0#32 (Cert.Plain.word r)) = 1#1 := congrFun h (Shape.Idx.first Cert.ReferenceIdeal.Gen.h_S_)
  by_contra hn
  have hf : BitVec.sle 0#32 (Cert.Plain.word r) = false := by
    rw [Bool.eq_false_iff]
    intro q
    exact hn (by simpa using BitVec.sle_iff_toInt_le.mp q)
  rw [hf] at e
  exact absurd e (by decide)

/-- From equal arguments whose index is not negative, kernel and reference end with equal arrays: the new memory. -/
theorem value : Cert.algebraic_KernelIdeal_ReferenceIdeal_pre_not_negative := by
  intro m g m' g' hpre hagree
  refine ⟨fun c => newMemory (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (Cert.Region.index m), ?_, ?_⟩
  · refine (θ_run (Cert.KernelIdeal.defs (F := Ideal)) _ _).mono (fun _ h c => ⟨(h.1 c).1.trans ?_, (h.1 c).2⟩) (Cert.Region.run (F := Ideal) m g)
    exact eq_newMemory _ _ _ _ _ (Cert.Region.left_apply m c)
  · refine (θ_run (Cert.ReferenceIdeal.defs (F := Ideal)) _ _).mono (fun _ h c => ⟨(h c).1.trans ?_, (h c).2⟩) (Cert.Plain.run (F := Ideal) m' g')
    rw [(hagree c).1, (hagree c).2.1, (hagree c).2.2.1, (hagree c).2.2.2]
    obtain rfl : c = 0 := Subsingleton.elim (α := Fin 1) _ _
    have hw : Cert.Region.index m
        = Cert.Plain.word (m (((0 : Dev Cert.KernelIdeal.nD).tc : Thread Cert.KernelIdeal.nD Cert.KernelIdeal.τ).loc Cert.KernelIdeal.main_arg3)) :=
      congrArg (m (((0 : Dev Cert.KernelIdeal.nD).tc : Thread Cert.KernelIdeal.nD Cert.KernelIdeal.τ).loc Cert.KernelIdeal.main_arg3))
        (funext fun a => a.elim0)
    rw [hw]
    exact eq_newMemory _ _ _ _ _ (Cert.Plain.left_apply _ _ _ _ (index_nonneg _ _ _ _ (hpre 0)))

/-- Every claim of the certificate. -/
theorem claim : Cert.Claim :=
  ⟨Cert.Kernel.Gen.facts, Cert.KernelIdeal.Gen.facts, Cert.ReferenceIdeal.Gen.facts, preFacts,
    frame_Kernel, frame_KernelIdeal, fun m g _ => frame_KernelIdeal m g trivial, frame_ReferenceIdeal,
    fun m g _ => frame_ReferenceIdeal m g trivial, trivial, value⟩

end Cert.Proof

end
